-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x4096 : Shape := ⟨3, ![6, 3072, 4096]⟩
abbrev S4096x22016 : Shape := ⟨2, ![4096, 22016]⟩
abbrev S22016 : Shape := ⟨1, ![22016]⟩
abbrev S18432x4096 : Shape := ⟨2, ![18432, 4096]⟩
abbrev S1x22016 : Shape := ⟨2, ![1, 22016]⟩
abbrev S18432x1 : Shape := ⟨2, ![18432, 1]⟩
abbrev S18432x11008 : Shape := ⟨2, ![18432, 11008]⟩
abbrev S512x4096 : Shape := ⟨2, ![512, 4096]⟩
abbrev S4096x256 : Shape := ⟨2, ![4096, 256]⟩
abbrev S1x256 : Shape := ⟨2, ![1, 256]⟩
abbrev S512x1 : Shape := ⟨2, ![512, 1]⟩
abbrev S512x11008 : Shape := ⟨2, ![512, 11008]⟩
abbrev S512 : Shape := ⟨1, ![512]⟩
abbrev S512x256 : Shape := ⟨2, ![512, 256]⟩

abbrev nBuf : Space → Nat
  | .hbm => 10
  | .vmem => 20
  | .smem => 0
  | _ => 0

abbrev bufTy : (tb : Table) → Fin (tcTables nBuf tb) → BufTy
  | .hbm, ⟨0, _⟩ => ⟨S6x3072x4096, .bf16⟩
  | .hbm, ⟨1, _⟩ => ⟨S4096x22016, .fp8e4m3⟩
  | .hbm, ⟨2, _⟩ => ⟨S22016, .f32⟩
  | .hbm, ⟨3, _⟩ => ⟨S18432x4096, .bf16⟩
  | .hbm, ⟨4, _⟩ => ⟨S1x22016, .f32⟩
  | .hbm, ⟨5, _⟩ => ⟨S1x22016, .f32⟩
  | .hbm, ⟨6, _⟩ => ⟨S18432x1, .f32⟩
  | .hbm, ⟨7, _⟩ => ⟨S18432x11008, .fp8e4m3⟩
  | .hbm, ⟨8, _⟩ => ⟨S18432x4096, .fp8e4m3⟩
  | .hbm, ⟨9, _⟩ => ⟨S18432x1, .f32⟩
  | .local _ .vmem, ⟨0, _⟩ => ⟨S512x4096, .bf16⟩
  | .local _ .vmem, ⟨1, _⟩ => ⟨S512x4096, .bf16⟩
  | .local _ .vmem, ⟨2, _⟩ => ⟨S4096x256, .fp8e4m3⟩
  | .local _ .vmem, ⟨3, _⟩ => ⟨S4096x256, .fp8e4m3⟩
  | .local _ .vmem, ⟨4, _⟩ => ⟨S4096x256, .fp8e4m3⟩
  | .local _ .vmem, ⟨5, _⟩ => ⟨S4096x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x1, .f32⟩
  | .local _ .vmem, ⟨11, _⟩ => ⟨S512x1, .f32⟩
  | .local _ .vmem, ⟨12, _⟩ => ⟨S512x11008, .fp8e4m3⟩
  | .local _ .vmem, ⟨13, _⟩ => ⟨S512x11008, .fp8e4m3⟩
  | .local _ .vmem, ⟨14, _⟩ => ⟨S512x4096, .fp8e4m3⟩
  | .local _ .vmem, ⟨15, _⟩ => ⟨S512x4096, .fp8e4m3⟩
  | .local _ .vmem, ⟨16, _⟩ => ⟨S512x1, .f32⟩
  | .local _ .vmem, ⟨17, _⟩ => ⟨S512x1, .f32⟩
  | .local _ .vmem, ⟨18, _⟩ => ⟨S512x11008, .f32⟩
  | .local _ .vmem, ⟨19, _⟩ => ⟨S512x1, .f32⟩
  | _, _ => ⟨S6x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![36, 43], ![false, false]⟩

def k0_off1 (i : grid0.Coords) : Fin 2 → Nat :=
  let c0_13 : Index := 0#32
  let arg1 : BitVec 32 := BitVec.ofNat 32 (i 1).val
  let c256_i32 : BitVec 32 := 256#32
  let v26 : BitVec 32 := Scalar.muli arg1 c256_i32
  let v27 : Index := Scalar.indexCast v26
  ![0, v27.toNat]
def k0_cond2 (i : grid0.Coords) : BitVec 1 :=
  let arg1 : BitVec 32 := BitVec.ofNat 32 (i 1).val
  let c42_i32 : BitVec 32 := 42#32
  let v39 : BitVec 1 := Scalar.cmpi .eq arg1 c42_i32
  let v40 : BitVec 32 := Scalar.extui v39
  let c0_i32_19 : BitVec 32 := 0#32
  let v41 : BitVec 1 := Scalar.cmpi .ne v40 c0_i32_19
  v41

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x11008 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S6x3072x4096 : Shape := ⟨3, ![6, 3072, 4096]⟩
abbrev S4096x22016 : Shape := ⟨2, ![4096, 22016]⟩
abbrev S22016 : Shape := ⟨1, ![22016]⟩
abbrev S18432x4096 : Shape := ⟨2, ![18432, 4096]⟩
abbrev S1x22016 : Shape := ⟨2, ![1, 22016]⟩
abbrev S18432x1 : Shape := ⟨2, ![18432, 1]⟩
abbrev S18432x11008 : Shape := ⟨2, ![18432, 11008]⟩
abbrev S18432 : Shape := ⟨1, ![18432]⟩
abbrev S18432x22016 : Shape := ⟨2, ![18432, 22016]⟩

abbrev nBuf : Space → Nat
  | .hbm => 9
  | .vmem => 7
  | .smem => 0
  | _ => 0

abbrev bufTy : (tb : Table) → Fin (tcTables nBuf tb) → BufTy
  | .hbm, ⟨0, _⟩ => ⟨S6x3072x4096, .bf16⟩
  | .hbm, ⟨1, _⟩ => ⟨S4096x22016, .fp8e4m3⟩
  | .hbm, ⟨2, _⟩ => ⟨S22016, .f32⟩
  | .hbm, ⟨3, _⟩ => ⟨S18432x4096, .bf16⟩
  | .hbm, ⟨4, _⟩ => ⟨S1x22016, .f32⟩
  | .hbm, ⟨5, _⟩ => ⟨S18432x1, .f32⟩
  | .hbm, ⟨6, _⟩ => ⟨S18432x11008, .fp8e4m3⟩
  | .hbm, ⟨7, _⟩ => ⟨S18432x4096, .fp8e4m3⟩
  | .hbm, ⟨8, _⟩ => ⟨S18432x1, .f32⟩
  | .local _ .vmem, ⟨0, _⟩ => ⟨S18432x4096, .bf16⟩
  | .local _ .vmem, ⟨1, _⟩ => ⟨S4096x22016, .fp8e4m3⟩
  | .local _ .vmem, ⟨2, _⟩ => ⟨S1x22016, .f32⟩
  | .local _ .vmem, ⟨3, _⟩ => ⟨S18432x1, .f32⟩
  | .local _ .vmem, ⟨4, _⟩ => ⟨S18432x11008, .fp8e4m3⟩
  | .local _ .vmem, ⟨5, _⟩ => ⟨S18432x4096, .fp8e4m3⟩
  | .local _ .vmem, ⟨6, _⟩ => ⟨S18432x1, .f32⟩
  | _, _ => ⟨S6x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S18432x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x22016 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x22016 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.HandKernel.Spec.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the kernel's stores hold, as functions of what it loads -/

/-- The row codes the kernel stores from a block of `x` (first column step). -/
def QC (x : Vec F S512x4096 .bf16) : Vec F S512x4096 .fp8e4m3 :=
  k0_pay19 (k0_pay3 x) (k0_pay7 (k0_pay4 x) (k0_pay5 x) (k0_pay6 x) 4#32)

/-- The row scales the kernel stores from a block of `x` (first column step). -/
def QS (x : Vec F S512x4096 .bf16) : Vec F S512x1 .f32 :=
  k0_pay18 (k0_pay9 (k0_pay4 x) (k0_pay5 x) (k0_pay6 x) 4#32) (k0_pay10 (k0_pay4 x) (k0_pay5 x) (k0_pay6 x) 4#32) 23#32

/-- The 256 hidden columns one step computes, from the codes, the row scales, the two weight blocks and their scales. -/
def TL (cx : Vec F S512x4096 .fp8e4m3) (sx : Vec F S512x1 .f32) (wg wu : Vec F S4096x256 .fp8e4m3) (sg su : Vec F S1x256 .f32) :
    Vec F S512x256 .f32 :=
  k0_pay22 cx sx wg sg wu su

/-- The running row maximum after one more block of columns. -/
def AM (a : Vec F S512x1 .f32) (cx : Vec F S512x4096 .fp8e4m3) (sx : Vec F S512x1 .f32) (wg wu : Vec F S4096x256 .fp8e4m3)
    (sg su : Vec F S1x256 .f32) : Vec F S512x1 .f32 :=
  k0_pay1 a (k0_pay23 cx sx wg sg wu su)

/-- The row scales of the hidden activations from their row maxima (last column step). -/
def HS (a : Vec F S512x1 .f32) : Vec F S512x1 .f32 :=
  k0_pay16 a (k0_pay11 a) (k0_pay12 a) (k0_pay13 a) (k0_pay14 a)

/-- The codes of the hidden activations from their row maxima and all their columns (last column step). -/
def HC (a : Vec F S512x1 .f32) (h : Vec F S512x11008 .f32) : Vec F S512x11008 .fp8e4m3 :=
  k0_pay2 (k0_pay15 a (k0_pay11 a) (k0_pay12 a) (k0_pay13 a) (k0_pay14 a)) k0_pay17 h

/-- The hidden buffer after one step: the step's 256 columns at `k0_off1`, the others as they were. -/
def UPD (i : grid0.Coords) (H : Vec F S512x11008 .f32) (w : Vec F S512x256 .f32) : Vec F S512x11008 .f32 := fun y =>
  if h : ∀ a, k0_off1 i a ≤ (y a).val ∧ (y a).val < k0_off1 i a + S512x256.size a then
    w (Rect.unitLocal (s := S512x11008) (off := k0_off1 i) (size := S512x256.size) y h)
  else H y

/-- What a buffer holding `H` reads after the step's block is stored into it. -/
theorem read_upd {sig' : RefSig} {κ : Kind} {sp : Space} (v : View sig' κ sp S512x11008 .f32) (f : v.ty.Contents (Elt F)) (i : grid0.Coords)
    (w : Vec F S512x256 .f32) :
    v.read (Elt F) (v.writes (Elt F) f [⟨Rect.unit (s := S512x11008) (k0_off1 i) S512x256.size (k0_off1_inb i), w⟩]) = UPD i (v.read (Elt F) f) w := by
  funext y
  rw [View.read_writes_cons_unit v f (k0_off1_inb i) w [] y rfl]
  rfl

end Cert.Kernel.Hand

end
-- ==== Proof.HandKernel.Points.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernel.Spec
public import Idealize.ShloMosaic.Lib.WritesUnit
public import Idealize.ShloMosaic.Lib.Pointwise
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid's points and what each of them computes -/

/-- The body's first condition holds at the points that start a block of rows. -/
theorem hcond1 : ∀ t : Fin cfg0.N, k0_cond1 (grid0.coords t) = 1#1 ↔ t.val % 43 = 0 :=
  (fun t => by
    have ht : t.val < 1548 := Nat.lt_of_lt_of_eq t.isLt N_0
    have e1 : (grid0.coords t 1).val = t.val / 1 % 43 := Pipeline.Grid.coords_val t 1 (by decide) rfl
    simp only [k0_cond1, e1]
    word_cmp
   : ∀ t : Fin grid0.N, k0_cond1 (grid0.coords t) = 1#1 ↔ t.val % 43 = 0)

/-- The body's second condition holds at the points that end a block of rows. -/
theorem hcond2 : ∀ t : Fin cfg0.N, k0_cond2 (grid0.coords t) = 1#1 ↔ t.val % 43 = 42 :=
  (fun t => by
    have ht : t.val < 1548 := Nat.lt_of_lt_of_eq t.isLt N_0
    have e1 : (grid0.coords t 1).val = t.val / 1 % 43 := Pipeline.Grid.coords_val t 1 (by decide) rfl
    simp only [k0_cond2, e1]
    word_cmp
   : ∀ t : Fin grid0.N, k0_cond2 (grid0.coords t) = 1#1 ↔ t.val % 43 = 42)

/-- Where the step's hidden columns are stored. -/
theorem off1_at (t : Fin cfg0.N) : k0_off1 (grid0.coords t) = ![0, (t.val % 43) * 256] := by
  have ht : t.val < 1548 := Nat.lt_of_lt_of_eq t.isLt N_0
  have e1 : (grid0.coords t 1).val = t.val / 1 % 43 := Pipeline.Grid.coords_val t 1 (by decide) rfl
  simp only [k0_off1, e1, Scalar.muli, Scalar.indexCast]
  congr 1
  simp [IntOp.muli, BitVec.toNat_mul, BitVec.toNat_ofNat]
  omega

/-- The grid has 1548 points (the configuration's spelling). -/
theorem N_cfg : cfg0.N = 1548 := N_0

/-- Point number `n`, for any `n`. -/
def pt (n : ℕ) : Fin cfg0.N := ⟨n % 1548, by rw [N_cfg]; exact Nat.mod_lt _ (by decide)⟩

/-- A point is the one with its number. -/
theorem pt_val (t : Fin cfg0.N) : pt t.val = t := by
  have ht : t.val < 1548 := Nat.lt_of_lt_of_eq t.isLt N_0
  exact Fin.ext (Nat.mod_eq_of_lt ht)

variable (m : (ℓ : Loc nD τ sig) → Buf (Elt F) ℓ) (ρ : Dev nD → PrngReg)

/-- The codes of row block `i` of `x`. -/
def cx (c : Dev nD) (i : ℕ) : Vec F S512x4096 .fp8e4m3 := QC (iblk m c 0 (pt (43 * i)))
/-- The scales of row block `i` of `x`. -/
def sx (c : Dev nD) (i : ℕ) : Vec F S512x1 .f32 := QS (iblk m c 0 (pt (43 * i)))
/-- The hidden columns of point `t`. -/
def tileT (c : Dev nD) (i : ℕ) (t : Fin cfg0.N) : Vec F S512x256 .f32 :=
  TL (cx m c i) (sx m c i) (iblk m c 1 t) (iblk m c 2 t) (iblk m c 3 t) (iblk m c 4 t)
/-- The running maximum after point `t`, from the one before. -/
def accT (c : Dev nD) (i : ℕ) (t : Fin cfg0.N) (a : Vec F S512x1 .f32) : Vec F S512x1 .f32 :=
  AM a (cx m c i) (sx m c i) (iblk m c 1 t) (iblk m c 2 t) (iblk m c 3 t) (iblk m c 4 t)
/-- The running maximum of row block `i` after `j` column steps. -/
def acc (c : Dev nD) (i : ℕ) : ℕ → Vec F S512x1 .f32
  | 0 => k0_pay20
  | j + 1 => accT m c i (pt (43 * i + j)) (acc c i j)
/-- All the hidden columns of row block `i`. -/
def hid (c : Dev nD) (i : ℕ) : Vec F S512x11008 .f32 := fun y =>
  tileT m c i (pt (43 * i + (y 1).val / 256)) (ix2 (y 0) (⟨(y 1).val % 256, Nat.mod_lt _ (by decide)⟩ : Fin 256))

/-- What is known of the hidden buffer after point `n`: the columns stored so far of its row block. -/
def Inv (c : Dev nD) (n : ℕ) (H : Vec F S512x11008 .f32) : Prop :=
  ∀ y : S512x11008.Idx, (y 1).val < (n % 43 + 1) * 256 → H y = hid m c (n / 43) y

/-- A point is given by its row block and its column step. -/
theorem pt_row (t : Fin cfg0.N) : pt (43 * (t.val / 43) + t.val % 43) = t := by
  rw [Nat.div_add_mod]; exact pt_val t

/-- The first point of a row block. -/
theorem pt_first (t : Fin cfg0.N) (h : t.val % 43 = 0) : pt (43 * (t.val / 43)) = t := by
  have := pt_row t; rwa [h, Nat.add_zero] at this

/-- One step keeps what is known of the hidden buffer: the columns known before it, and its own. -/
theorem upd_inv (c : Dev nD) (t : Fin cfg0.N) (H : Vec F S512x11008 .f32)
    (hH : ∀ y : S512x11008.Idx, (y 1).val < (t.val % 43) * 256 → H y = hid m c (t.val / 43) y) :
    Inv m c t.val (UPD (grid0.coords t) H (tileT m c (t.val / 43) t)) := by
  intro y hy
  have hb0 : ∀ a : Fin 2, k0_off1 (grid0.coords t) a = (![0, (t.val % 43) * 256] : Fin 2 → ℕ) a := fun a => by rw [off1_at]
  have hb1 : k0_off1 (grid0.coords t) 1 = (t.val % 43) * 256 := hb0 1
  have hbz : k0_off1 (grid0.coords t) 0 = 0 := hb0 0
  have hy0 : (y 0).val < 512 := (y 0).isLt
  unfold UPD
  by_cases h : ∀ a, k0_off1 (grid0.coords t) a ≤ (y a).val ∧ (y a).val < k0_off1 (grid0.coords t) a + S512x256.size a
  · rw [dif_pos h]
    have h1 := h 1
    rw [hb1] at h1
    have h1b : (y 1).val < t.val % 43 * 256 + 256 := h1.2
    have h1a : t.val % 43 * 256 ≤ (y 1).val := h1.1
    have ej : (y 1).val / 256 = t.val % 43 := by omega
    unfold hid
    rw [ej, pt_row]
    congr 1
    funext a
    apply Fin.ext
    rw [Rect.unitLocal_val]
    fin_cases a
    · show (y 0).val - k0_off1 (grid0.coords t) 0 = (y 0).val
      rw [hbz]; rfl
    · show (y 1).val - k0_off1 (grid0.coords t) 1 = (y 1).val % 256
      rw [hb1]; omega
  · rw [dif_neg h]
    apply hH
    by_contra hlt
    apply h
    intro a
    fin_cases a
    · show k0_off1 (grid0.coords t) 0 ≤ (y 0).val ∧ (y 0).val < k0_off1 (grid0.coords t) 0 + 512
      rw [hbz]; omega
    · show k0_off1 (grid0.coords t) 1 ≤ (y 1).val ∧ (y 1).val < k0_off1 (grid0.coords t) 1 + 256
      rw [hb1]; omega

/-- After a last column step the hidden buffer is known whole. -/
theorem inv_last (c : Dev nD) (n : ℕ) (h : n % 43 = 42) (H : Vec F S512x11008 .f32) (hH : Inv m c n H) : H = hid m c (n / 43) := by
  funext y
  have hy : (y 1).val < 11008 := (y 1).isLt
  exact hH y (by rw [h]; omega)

/-- What is known after the point before is what a step within the row block starts from. -/
theorem inv_prev (c : Dev nD) (n : ℕ) (h : (n + 1) % 43 ≠ 0) (H : Vec F S512x11008 .f32) (hH : Inv m c n H) :
    ∀ y : S512x11008.Idx, (y 1).val < ((n + 1) % 43) * 256 → H y = hid m c ((n + 1) / 43) y := by
  intro y hy
  have e1 : (n + 1) % 43 = n % 43 + 1 := by omega
  have e2 : (n + 1) / 43 = n / 43 := by omega
  rw [e2]; exact hH y (by rw [e1] at hy; exact hy)

end Cert.Kernel.Hand

end
-- ==== Proof.HandKernel.Dats.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernel.Points
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data -/

/-- The staging buffer of `x` at point `t`. -/
abbrev ms0 (t : Fin cfg0.N) : Memref sig .tc .vmem S512x4096 .bf16 := win0_0.stage (cfg0.slots t 0)
/-- The staging buffer of the gate weights at point `t`. -/
abbrev ms1 (t : Fin cfg0.N) : Memref sig .tc .vmem S4096x256 .fp8e4m3 := win0_1.stage (cfg0.slots t 1)
/-- The staging buffer of the up weights at point `t`. -/
abbrev ms2 (t : Fin cfg0.N) : Memref sig .tc .vmem S4096x256 .fp8e4m3 := win0_2.stage (cfg0.slots t 2)
/-- The staging buffer of the gate scales at point `t`. -/
abbrev ms3 (t : Fin cfg0.N) : Memref sig .tc .vmem S1x256 .f32 := win0_3.stage (cfg0.slots t 3)
/-- The staging buffer of the up scales at point `t`. -/
abbrev ms4 (t : Fin cfg0.N) : Memref sig .tc .vmem S1x256 .f32 := win0_4.stage (cfg0.slots t 4)
/-- The staging buffer of the hidden rows' scales at point `t`. -/
abbrev ms5 (t : Fin cfg0.N) : Memref sig .tc .vmem S512x1 .f32 := win0_5.stage (cfg0.slots t 5)
/-- The staging buffer of the hidden rows' codes at point `t`. -/
abbrev ms6 (t : Fin cfg0.N) : Memref sig .tc .vmem S512x11008 .fp8e4m3 := win0_6.stage (cfg0.slots t 6)
/-- The staging buffer of the codes of `x` at point `t`. -/
abbrev ms7 (t : Fin cfg0.N) : Memref sig .tc .vmem S512x4096 .fp8e4m3 := win0_7.stage (cfg0.slots t 7)
/-- The staging buffer of the scales of `x` at point `t`. -/
abbrev ms8 (t : Fin cfg0.N) : Memref sig .tc .vmem S512x1 .f32 := win0_8.stage (cfg0.slots t 8)
/-- The buffer of the hidden values. -/
abbrev scM0 : Memref sig .tc .vmem S512x11008 .f32 := Memref.whole cc0_scratch0
/-- The buffer of the running maximum. -/
abbrev scM1 : Memref sig .tc .vmem S512x1 .f32 := Memref.whole cc0_scratch1

/-- The launch's invariant with the two scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

variable (m : (ℓ : Loc nD τ sig) → Buf (Elt F) ℓ) (ρ : Dev nD → PrngReg)

/-- The body's invariant: before the first point what the launch hands over, after point `n` the hidden buffer with its
    columns so far and the running maximum. -/
def PhiS (c : Dev nD) : (n : ℕ) → n ≤ cfg0.N → sProp 𝕄
  | 0, _ => Pipeline.ΦA spec0 c
  | n + 1, _ => iprop(((∃ H, ⌜Inv m c n H⌝ ∗ owns (c : Thread nD τ) scM0 fullShare H)
      ∗ owns (c : Thread nD τ) scM1 fullShare (acc m c (n / 43) (n % 43 + 1))) ∗ (∃ r, prngReg c r))

/-- The invariant after a point. -/
theorem PhiS_succ (c : Dev nD) (n : ℕ) (hn : n < cfg0.N) : PhiS m c (n + 1) hn
    = iprop(((∃ H, ⌜Inv m c n H⌝ ∗ owns (c : Thread nD τ) scM0 fullShare H)
      ∗ owns (c : Thread nD τ) scM1 fullShare (acc m c (n / 43) (n % 43 + 1))) ∗ (∃ r, prngReg c r)) := rfl

/-- The invariant before any point, its named contents forgotten. -/
theorem PhiS_forget (c : Dev nD) : ∀ (n : ℕ) (h : n ≤ cfg0.N), PhiS m c n h ⊢ Pipeline.ΦA spec0 c
  | 0, _ => Idealize.SL.BI.Entails.refl _
  | n + 1, h => by
    rw [PhiS_succ m c n h, PhiA_eq]
    iintro ⟨⟨⟨%H, %hH, HS0⟩, HS1⟩, Hg⟩
    isplitl [HS0 HS1]
    · isplitl [HS0]
      · iexists _; iexact HS0
      iexists _; iexact HS1
    iexact Hg

/-- The proof data: the inputs' blocks stay, windows 7 and 8 hold the codes and scales of the row block from its first
    point on, windows 5 and 6 those of the hidden activations at its last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => HS (acc m c (t.val / 43) 43)
    | ⟨6, _⟩ => HC (acc m c (t.val / 43) 43) (hid m c (t.val / 43))
    | ⟨7, _⟩ => cx m c (t.val / 43)
    | ⟨8, _⟩ => sx m c (t.val / 43)
  Φ t := PhiS m c t.val (Nat.le_of_lt_succ t.isLt)
  q w := Pipeline.shareOf spec0 w
  owed _ := 0

/-- Every window's array at the start is what the host code left there. -/
theorem A_eq (c : Dev nD) (w : Fin cfg0.W) : (dats m 0 c).A w = V m c (Pipeline.arrRef spec0 w) := by
  dsimp only [dats]

/-- The invariant before a point that is not the first is the one after the point before. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- After the body the window of `x` holds its block. -/
theorem after_0 (c : Dev nD) (t : Fin cfg0.N) : (dats m 0 c).after 0 t = iblk m c 0 t := by dsimp only [dats]
/-- After the body the window of the gate weights holds its block. -/
theorem after_1 (c : Dev nD) (t : Fin cfg0.N) : (dats m 0 c).after 1 t = iblk m c 1 t := by dsimp only [dats]
/-- After the body the window of the up weights holds its block. -/
theorem after_2 (c : Dev nD) (t : Fin cfg0.N) : (dats m 0 c).after 2 t = iblk m c 2 t := by dsimp only [dats]
/-- After the body the window of the gate scales holds its block. -/
theorem after_3 (c : Dev nD) (t : Fin cfg0.N) : (dats m 0 c).after 3 t = iblk m c 3 t := by dsimp only [dats]
/-- After the body the window of the up scales holds its block. -/
theorem after_4 (c : Dev nD) (t : Fin cfg0.N) : (dats m 0 c).after 4 t = iblk m c 4 t := by dsimp only [dats]
/-- What the window of the hidden rows' scales is to hold when its row block is written back. -/
theorem after_5 (c : Dev nD) (t : Fin cfg0.N) : (dats m 0 c).after 5 t = HS (acc m c (t.val / 43) 43) := by dsimp only [dats]
/-- What the window of the hidden rows' codes is to hold when its row block is written back. -/
theorem after_6 (c : Dev nD) (t : Fin cfg0.N) : (dats m 0 c).after 6 t = HC (acc m c (t.val / 43) 43) (hid m c (t.val / 43)) := by dsimp only [dats]
/-- What the window of the codes of `x` is to hold when its row block is written back. -/
theorem after_7 (c : Dev nD) (t : Fin cfg0.N) : (dats m 0 c).after 7 t = cx m c (t.val / 43) := by dsimp only [dats]
/-- What the window of the scales of `x` is to hold when its row block is written back. -/
theorem after_8 (c : Dev nD) (t : Fin cfg0.N) : (dats m 0 c).after 8 t = sx m c (t.val / 43) := by dsimp only [dats]

/-- Before the body the window of `x` holds its block. -/
theorem before_0 (c : Dev nD) (t : Fin cfg0.N) (d) : (dats m 0 c).before 0 t d = iblk m c 0 t :=
  before0_0_of m (dats m 0 c) (A_eq m c 0) (after_0 m c) t d
/-- Before the body the window of the gate weights holds its block. -/
theorem before_1 (c : Dev nD) (t : Fin cfg0.N) (d) : (dats m 0 c).before 1 t d = iblk m c 1 t :=
  before0_1_of m (dats m 0 c) (A_eq m c 1) (after_1 m c) t d
/-- Before the body the window of the up weights holds its block. -/
theorem before_2 (c : Dev nD) (t : Fin cfg0.N) (d) : (dats m 0 c).before 2 t d = iblk m c 2 t :=
  before0_2_of m (dats m 0 c) (A_eq m c 2) (after_2 m c) t d
/-- Before the body the window of the gate scales holds its block. -/
theorem before_3 (c : Dev nD) (t : Fin cfg0.N) (d) : (dats m 0 c).before 3 t d = iblk m c 3 t :=
  before0_3_of m (dats m 0 c) (A_eq m c 3) (after_3 m c) t d
/-- Before the body the window of the up scales holds its block. -/
theorem before_4 (c : Dev nD) (t : Fin cfg0.N) (d) : (dats m 0 c).before 4 t d = iblk m c 4 t :=
  before0_4_of m (dats m 0 c) (A_eq m c 4) (after_4 m c) t d

/-! ## Where the output windows are idle, and where they are written back -/

/-- The window of the codes of `x` is not stored to after the first column step. -/
theorem idle_7 (t : Fin cfg0.N) (h : ¬t.val % 43 = 0) : cfg0.idle 7 (cfg0.grid.coords t) = true := by
  show (!(k0_cond1 (grid0.coords t) == 1#1)) = true
  have := mt (hcond1 t).mp h
  simp [this]
/-- The window of the codes of `x` is stored to at the first column step. -/
theorem live_7 (t : Fin cfg0.N) (h : t.val % 43 = 0) : cfg0.idle 7 (cfg0.grid.coords t) = false := by
  show (!(k0_cond1 (grid0.coords t) == 1#1)) = false
  have := (hcond1 t).mpr h
  simp [this]
/-- The window of the scales of `x` is not stored to after the first column step. -/
theorem idle_8 (t : Fin cfg0.N) (h : ¬t.val % 43 = 0) : cfg0.idle 8 (cfg0.grid.coords t) = true := idle_7 t h
/-- The window of the scales of `x` is stored to at the first column step. -/
theorem live_8 (t : Fin cfg0.N) (h : t.val % 43 = 0) : cfg0.idle 8 (cfg0.grid.coords t) = false := live_7 t h
/-- The window of the hidden rows' scales is not stored to before the last column step. -/
theorem idle_5 (t : Fin cfg0.N) (h : ¬t.val % 43 = 42) : cfg0.idle 5 (cfg0.grid.coords t) = true := by
  show (!(k0_cond2 (grid0.coords t) == 1#1)) = true
  have := mt (hcond2 t).mp h
  simp [this]
/-- The window of the hidden rows' scales is stored to at the last column step. -/
theorem live_5 (t : Fin cfg0.N) (h : t.val % 43 = 42) : cfg0.idle 5 (cfg0.grid.coords t) = false := by
  show (!(k0_cond2 (grid0.coords t) == 1#1)) = false
  have := (hcond2 t).mpr h
  simp [this]
/-- The window of the hidden rows' codes is not stored to before the last column step. -/
theorem idle_6 (t : Fin cfg0.N) (h : ¬t.val % 43 = 42) : cfg0.idle 6 (cfg0.grid.coords t) = true := idle_5 t h
/-- The window of the hidden rows' codes is stored to at the last column step. -/
theorem live_6 (t : Fin cfg0.N) (h : t.val % 43 = 42) : cfg0.idle 6 (cfg0.grid.coords t) = false := live_5 t h

/-- A result window is not written back before the last column step. -/
theorem noflush {w : Fin cfg0.W} (hf : ∀ t : Fin cfg0.N, (cfg0.win w).flush t = true ↔ t.val % 43 = 42) (t : Fin cfg0.N) (h : ¬t.val % 43 = 42) :
    (cfg0.win w).flush t = false := by
  rw [← Bool.not_eq_true]; exact mt (hf t).mp h

/-- Within a row block, window 7 holds what its first point stored. -/
theorem before_7 (c : Dev nD) : ∀ (n : ℕ) (t : Fin cfg0.N), t.val = n → ¬t.val % 43 = 0 → ∀ d, (dats m 0 c).before 7 t d = cx m c (t.val / 43)
  | 0, t, ht, h, d => absurd (by rw [ht]) h
  | n + 1, t, ht, h, d => by
    have hN := t.isLt
    rw [(dats m 0 c).before_of_pos 7 t (by omega) ((cfg0.win 7).fetch_out rfl t) d]
    rw [noflush flush0_7 _ (by show ¬(t.val - 1) % 43 = 42; omega), if_neg Bool.false_ne_true]
    have e : (t.val - 1) / 43 = t.val / 43 := by omega
    unfold Dat.left
    by_cases h0 : (t.val - 1) % 43 = 0
    · rw [live_7 ⟨t.val - 1, by omega⟩ h0]
      show (dats m 0 c).kept 7 ⟨t.val - 1, by omega⟩ d = _
      unfold Dat.kept
      rw [Pipeline.fill_of_clip_none 7 _ (fun _ => rfl) d ((dats m 0 c).after 7 _), Window.fill_cut, after_7]
      show cx m c ((t.val - 1) / 43) = _
      rw [e]
    · rw [idle_7 ⟨t.val - 1, by omega⟩ h0]
      show (dats m 0 c).before 7 ⟨t.val - 1, by omega⟩ d = _
      rw [before_7 c n ⟨t.val - 1, by omega⟩ (by show t.val - 1 = n; omega) h0 d]
      show cx m c ((t.val - 1) / 43) = _
      rw [e]

/-- Within a row block, window 8 holds what its first point stored. -/
theorem before_8 (c : Dev nD) : ∀ (n : ℕ) (t : Fin cfg0.N), t.val = n → ¬t.val % 43 = 0 → ∀ d, (dats m 0 c).before 8 t d = sx m c (t.val / 43)
  | 0, t, ht, h, d => absurd (by rw [ht]) h
  | n + 1, t, ht, h, d => by
    have hN := t.isLt
    rw [(dats m 0 c).before_of_pos 8 t (by omega) ((cfg0.win 8).fetch_out rfl t) d]
    rw [noflush flush0_8 _ (by show ¬(t.val - 1) % 43 = 42; omega), if_neg Bool.false_ne_true]
    have e : (t.val - 1) / 43 = t.val / 43 := by omega
    unfold Dat.left
    by_cases h0 : (t.val - 1) % 43 = 0
    · rw [live_8 ⟨t.val - 1, by omega⟩ h0]
      show (dats m 0 c).kept 8 ⟨t.val - 1, by omega⟩ d = _
      unfold Dat.kept
      rw [Pipeline.fill_of_clip_none 8 _ (fun _ => rfl) d ((dats m 0 c).after 8 _), Window.fill_cut, after_8]
      show sx m c ((t.val - 1) / 43) = _
      rw [e]
    · rw [idle_8 ⟨t.val - 1, by omega⟩ h0]
      show (dats m 0 c).before 8 ⟨t.val - 1, by omega⟩ d = _
      rw [before_8 c n ⟨t.val - 1, by omega⟩ (by show t.val - 1 = n; omega) h0 d]
      show sx m c ((t.val - 1) / 43) = _
      rw [e]

end Cert.Kernel.Hand

end
-- ==== Proof.HandKernel.RunA.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernel.Spec
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first column step (`k0_cond1`): it quantises the block of `x` into the two output windows it then reads, clears the running maximum, and stores the first block of hidden columns. -/
theorem run_A (c : Dev nD) (i : grid0.Coords) (arg2 : Memref sig .tc .vmem S512x4096 .bf16) (harg2 : arg2.IsWhole) (arg3 : Memref sig .tc .vmem S4096x256 .fp8e4m3) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x11008 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x11008 .f32) (harg11 : arg11.IsWhole) (arg12 : Memref sig .tc .vmem S512x1 .f32) (harg12 : arg12.IsWhole) (hc0 : k0_cond1 i = 1#1) (hc1 : ¬k0_cond2 i = 1#1)
    (x0 : Vec F S512x4096 .bf16) (x1 : Vec F S4096x256 .fp8e4m3) (x2 : Vec F S4096x256 .fp8e4m3) (x3 : Vec F S1x256 .f32) (x4 : Vec F S1x256 .f32) (y5 : Vec F S512x1 .f32) (y6 : Vec F S512x11008 .fp8e4m3) (y7 : Vec F S512x4096 .fp8e4m3) (y8 : Vec F S512x1 .f32) (H : Vec F S512x11008 .f32) (A : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare H ∗ owns (c : Thread nD τ) arg12 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (QC x0) ∗ owns (c : Thread nD τ) arg10 fullShare (QS x0) ∗ owns (c : Thread nD τ) arg11 fullShare (UPD i H (TL (QC x0) (QS x0) x1 x2 x3 x4)) ∗ owns (c : Thread nD τ) arg12 fullShare (AM k0_pay20 (QC x0) (QS x0) x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part5_eq_skeleton, k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); refine (View.read_writes_full _ _ _ _ _).trans ?_; (repeat first | rw [View.readAt_full] | rw [View.readCov_full] | rw [read_upd] | rw [Memref.IsWhole.read_unread]); rfl
  isplitl [H10]
  · iexists _; isplitr; swap; · iexact H10
    ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); refine (View.read_writes_full _ _ _ _ _).trans ?_; (repeat first | rw [View.readAt_full] | rw [View.readCov_full] | rw [read_upd] | rw [Memref.IsWhole.read_unread]); rfl
  isplitl [H11]
  · iexists _; isplitr; swap; · iexact H11
    ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); (repeat first | rw [View.readAt_full] | rw [View.readCov_full] | rw [read_upd] | rw [Memref.IsWhole.read_unread]); rfl
  iexists _; isplitr; swap; · iexact H12
  ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); refine (View.read_writes_full _ _ _ _ _).trans ?_; (repeat first | rw [View.readAt_full] | rw [View.readCov_full] | rw [read_upd] | rw [Memref.IsWhole.read_unread]); rfl

end Cert.Kernel.Hand

end
-- ==== Proof.HandKernel.RunB.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernel.Spec
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a column step that is neither the first nor the last: one more block of hidden columns and the running maximum over it. -/
theorem run_B (c : Dev nD) (i : grid0.Coords) (arg2 : Memref sig .tc .vmem S512x4096 .bf16) (harg2 : arg2.IsWhole) (arg3 : Memref sig .tc .vmem S4096x256 .fp8e4m3) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x11008 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x11008 .f32) (harg11 : arg11.IsWhole) (arg12 : Memref sig .tc .vmem S512x1 .f32) (harg12 : arg12.IsWhole) (hc0 : ¬k0_cond1 i = 1#1) (hc1 : ¬k0_cond2 i = 1#1)
    (x0 : Vec F S512x4096 .bf16) (x1 : Vec F S4096x256 .fp8e4m3) (x2 : Vec F S4096x256 .fp8e4m3) (x3 : Vec F S1x256 .f32) (x4 : Vec F S1x256 .f32) (y5 : Vec F S512x1 .f32) (y6 : Vec F S512x11008 .fp8e4m3) (y7 : Vec F S512x4096 .fp8e4m3) (y8 : Vec F S512x1 .f32) (H : Vec F S512x11008 .f32) (A : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare H ∗ owns (c : Thread nD τ) arg12 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare (UPD i H (TL y7 y8 x1 x2 x3 x4)) ∗ owns (c : Thread nD τ) arg12 fullShare (AM A y7 y8 x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try repeat delta run_B.sl.r run_B.sl.r_1); (repeat first | rw [View.readAt_full] | rw [View.readCov_full] | rw [read_upd] | rw [Memref.IsWhole.read_unread]); rfl
  iexists _; isplitr; swap; · iexact H12
  ipureintro; (try repeat delta run_B.sl.r run_B.sl.r_1); refine (View.read_writes_full _ _ _ _ _).trans ?_; (repeat first | rw [View.readAt_full] | rw [View.readCov_full] | rw [read_upd] | rw [Memref.IsWhole.read_unread]); rfl

end Cert.Kernel.Hand

end
-- ==== Proof.HandKernel.RunC.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernel.Spec
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last column step (`k0_cond2`): the last block of hidden columns, then the quantisation of all of them into the two outputs. -/
theorem run_C (c : Dev nD) (i : grid0.Coords) (arg2 : Memref sig .tc .vmem S512x4096 .bf16) (harg2 : arg2.IsWhole) (arg3 : Memref sig .tc .vmem S4096x256 .fp8e4m3) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x11008 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x11008 .f32) (harg11 : arg11.IsWhole) (arg12 : Memref sig .tc .vmem S512x1 .f32) (harg12 : arg12.IsWhole) (hc0 : ¬k0_cond1 i = 1#1) (hc1 : k0_cond2 i = 1#1)
    (x0 : Vec F S512x4096 .bf16) (x1 : Vec F S4096x256 .fp8e4m3) (x2 : Vec F S4096x256 .fp8e4m3) (x3 : Vec F S1x256 .f32) (x4 : Vec F S1x256 .f32) (y5 : Vec F S512x1 .f32) (y6 : Vec F S512x11008 .fp8e4m3) (y7 : Vec F S512x4096 .fp8e4m3) (y8 : Vec F S512x1 .f32) (H : Vec F S512x11008 .f32) (A : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare H ∗ owns (c : Thread nD τ) arg12 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (HS (AM A y7 y8 x1 x2 x3 x4)) ∗ owns (c : Thread nD τ) arg8 fullShare (HC (AM A y7 y8 x1 x2 x3 x4) (UPD i H (TL y7 y8 x1 x2 x3 x4))) ∗ owns (c : Thread nD τ) arg9 fullShare y7 ∗ owns (c : Thread nD τ) arg10 fullShare y8 ∗ owns (c : Thread nD τ) arg11 fullShare (UPD i H (TL y7 y8 x1 x2 x3 x4)) ∗ owns (c : Thread nD τ) arg12 fullShare (AM A y7 y8 x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part5_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); refine (View.read_writes_full _ _ _ _ _).trans ?_; (repeat first | rw [View.readAt_full] | rw [View.readCov_full] | rw [read_upd] | rw [Memref.IsWhole.read_unread]); rfl
  isplitl [H8]
  · iexists _; isplitr; swap; · iexact H8
    ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); refine (View.read_writes_full _ _ _ _ _).trans ?_; (repeat first | rw [View.readAt_full] | rw [View.readCov_full] | rw [read_upd] | rw [Memref.IsWhole.read_unread]); rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); (repeat first | rw [View.readAt_full] | rw [View.readCov_full] | rw [read_upd] | rw [Memref.IsWhole.read_unread]); rfl
  iexists _; isplitr; swap; · iexact H12
  ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); refine (View.read_writes_full _ _ _ _ _).trans ?_; (repeat first | rw [View.readAt_full] | rw [View.readCov_full] | rw [read_upd] | rw [Memref.IsWhole.read_unread]); rfl

end Cert.Kernel.Hand

end
-- ==== Proof.HandKernel.Body.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernel.Dats
public import proofs.«01_k».proof.Proof.HandKernel.RunA
public import proofs.«01_k».proof.Proof.HandKernel.RunB
public import proofs.«01_k».proof.Proof.HandKernel.RunC
public import Idealize.ShloMosaic.Lib.WritesUnit
public import Idealize.ShloMosaic.Lib.Claim
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation, point by point -/

variable (m : (ℓ : Loc nD τ sig) → Buf (Elt F) ℓ) (ρ : Dev nD → PrngReg)

/-- One more step of the running maximum, at a grid point. -/
theorem acc_succ (c : Dev nD) (t : Fin cfg0.N) :
    acc m c (t.val / 43) (t.val % 43 + 1) = accT m c (t.val / 43) t (acc m c (t.val / 43) (t.val % 43)) := by
  show accT m c (t.val / 43) (pt (43 * (t.val / 43) + t.val % 43)) _ = _
  rw [pt_row]

/-- What a window that is stored to at point `t` holds after the body. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What a window that is written back at point `t` holds after the body. -/
theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

/-- The window of `x` keeps its block. -/
theorem leaves_0 (c : Dev nD) (t : Fin cfg0.N) :
    (dats m 0 c).leavesExact 0 t = owns (c : Thread nD τ) (ms0 t) fullShare (iblk m c 0 t) := by
  rw [leaves_live m c 0 t rfl, after_0]

/-- The window of the gate weights keeps its block. -/
theorem leaves_1 (c : Dev nD) (t : Fin cfg0.N) :
    (dats m 0 c).leavesExact 1 t = owns (c : Thread nD τ) (ms1 t) fullShare (iblk m c 1 t) := by
  rw [leaves_live m c 1 t rfl, after_1]

/-- The window of the up weights keeps its block. -/
theorem leaves_2 (c : Dev nD) (t : Fin cfg0.N) :
    (dats m 0 c).leavesExact 2 t = owns (c : Thread nD τ) (ms2 t) fullShare (iblk m c 2 t) := by
  rw [leaves_live m c 2 t rfl, after_2]

/-- The window of the gate scales keeps its block. -/
theorem leaves_3 (c : Dev nD) (t : Fin cfg0.N) :
    (dats m 0 c).leavesExact 3 t = owns (c : Thread nD τ) (ms3 t) fullShare (iblk m c 3 t) := by
  rw [leaves_live m c 3 t rfl, after_3]

/-- The window of the up scales keeps its block. -/
theorem leaves_4 (c : Dev nD) (t : Fin cfg0.N) :
    (dats m 0 c).leavesExact 4 t = owns (c : Thread nD τ) (ms4 t) fullShare (iblk m c 4 t) := by
  rw [leaves_live m c 4 t rfl, after_4]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at the first column step(s) of a row block. -/
theorem body_A (c : Dev nD) (t : Fin cfg0.N) (h0 : t.val % 43 = 0) (h1 : ¬t.val % 43 = 42) :
    bodyPre m c t ⊢ wp frame (wpE (defs₀ (F := F)) Variants.none c none) Set.univ (bodyAt0 t) (fun _ => bodyPost m c t) := by
  have hN : t.val < 1548 := lt_of_lt_of_eq t.isLt N_cfg
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [(dats m 0 c).leavesExact_idle 5 t (idle_5 t h1) (noflush flush0_5 t h1), (dats m 0 c).leavesExact_idle 6 t (idle_6 t h1) (noflush flush0_6 t h1)]
  rw [leaves_live m c 7 t (live_7 t h0), leaves_live m c 8 t (live_8 t h0), after_7, after_8]
  have ecx : cx m c (t.val / 43) = QC (iblk m c 0 t) := by unfold cx; rw [pt_first t h0]
  have esx : sx m c (t.val / 43) = QS (iblk m c 0 t) := by unfold sx; rw [pt_first t h0]
  have eacc : acc m c (t.val / 43) (t.val % 43 + 1) = AM k0_pay20 (QC (iblk m c 0 t)) (QS (iblk m c 0 t)) (iblk m c 1 t) (iblk m c 2 t) (iblk m c 3 t) (iblk m c 4 t) := by
    rw [acc_succ, h0]; unfold accT; rw [ecx, esx]; rfl
  rw [PhiS_castSucc m c t, eacc, ecx, esx]
  refine (sep_mono (PhiS_forget m c t.val _) .rfl).trans ?_
  rw [PhiA_eq]
  iintro ⟨⟨⟨⟨%H, HS0⟩, ⟨%A, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ _ _ _ _ _ _ _ _ _ _ _ _ _ _ _ _ _ _ _ _ _ ((hcond1 t).mpr h0) (mt (hcond2 t).mp h1) (iblk m c 0 t) (iblk m c 1 t) (iblk m c 2 t) (iblk m c 3 t) (iblk m c 4 t) _ _ _ _ H A Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro
        have := upd_inv m c t H (fun y hy => absurd hy (by rw [h0]; omega))
        unfold tileT at this; rw [ecx, esx] at this; exact this
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 4000000 in
/-- The body at the middle column step(s) of a row block. -/
theorem body_B (c : Dev nD) (t : Fin cfg0.N) (h0 : ¬t.val % 43 = 0) (h1 : ¬t.val % 43 = 42) :
    bodyPre m c t ⊢ wp frame (wpE (defs₀ (F := F)) Variants.none c none) Set.univ (bodyAt0 t) (fun _ => bodyPost m c t) := by
  have hN : t.val < 1548 := lt_of_lt_of_eq t.isLt N_cfg
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [(dats m 0 c).leavesExact_idle 5 t (idle_5 t h1) (noflush flush0_5 t h1), (dats m 0 c).leavesExact_idle 6 t (idle_6 t h1) (noflush flush0_6 t h1)]
  rw [(dats m 0 c).leavesExact_idle 7 t (idle_7 t h0) (noflush flush0_7 t h1), (dats m 0 c).leavesExact_idle 8 t (idle_8 t h0) (noflush flush0_8 t h1)]
  simp only [before_7 m c t.val t rfl h0, before_8 m c t.val t rfl h0]
  obtain ⟨n, hn⟩ : ∃ n, t.val = n + 1 := ⟨t.val - 1, by omega⟩
  have ePhi : PhiS m c t.val (Nat.le_of_lt t.isLt) = PhiS m c (n + 1) (by omega) := by congr 1
  have eacc : acc m c (t.val / 43) (t.val % 43 + 1) = AM (acc m c (n / 43) (n % 43 + 1)) (cx m c (t.val / 43)) (sx m c (t.val / 43)) (iblk m c 1 t) (iblk m c 2 t) (iblk m c 3 t) (iblk m c 4 t) := by
    rw [acc_succ]; unfold accT
    rw [show t.val / 43 = n / 43 by omega, show t.val % 43 = n % 43 + 1 by omega]
  rw [PhiS_castSucc m c t, ePhi, PhiS_succ, eacc]
  iintro ⟨⟨⟨⟨%H, %hH, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hinv : Inv m c t.val (UPD (grid0.coords t) H (TL (cx m c (t.val / 43)) (sx m c (t.val / 43)) (iblk m c 1 t) (iblk m c 2 t) (iblk m c 3 t) (iblk m c 4 t))) :=
    upd_inv m c t H (fun y hy => by rw [hn] at hy ⊢; exact inv_prev m c n (by rw [← hn]; exact h0) H hH y hy)
  iapply (run_B c (grid0.coords t) _ _ _ _ _ _ _ _ _ _ _ _ _ _ _ _ _ _ _ _ _ _ (mt (hcond1 t).mp h0) (mt (hcond2 t).mp h1) (iblk m c 0 t) (iblk m c 1 t) (iblk m c 2 t) (iblk m c 3 t) (iblk m c 4 t) _ _ (cx m c (t.val / 43)) (sx m c (t.val / 43)) H (acc m c (n / 43) (n % 43 + 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro
        exact hinv
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 4000000 in
/-- The body at the last column step(s) of a row block. -/
theorem body_C (c : Dev nD) (t : Fin cfg0.N) (h0 : ¬t.val % 43 = 0) (h1 : t.val % 43 = 42) :
    bodyPre m c t ⊢ wp frame (wpE (defs₀ (F := F)) Variants.none c none) Set.univ (bodyAt0 t) (fun _ => bodyPost m c t) := by
  have hN : t.val < 1548 := lt_of_lt_of_eq t.isLt N_cfg
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [leaves_live m c 5 t (live_5 t h1), leaves_live m c 6 t (live_6 t h1), after_5, after_6]
  rw [leaves_flush m c 7 t ((flush0_7 t).mpr h1), leaves_flush m c 8 t ((flush0_8 t).mpr h1), after_7, after_8]
  simp only [before_7 m c t.val t rfl h0, before_8 m c t.val t rfl h0]
  obtain ⟨n, hn⟩ : ∃ n, t.val = n + 1 := ⟨t.val - 1, by omega⟩
  have ePhi : PhiS m c t.val (Nat.le_of_lt t.isLt) = PhiS m c (n + 1) (by omega) := by congr 1
  have eacc : acc m c (t.val / 43) (t.val % 43 + 1) = AM (acc m c (n / 43) (n % 43 + 1)) (cx m c (t.val / 43)) (sx m c (t.val / 43)) (iblk m c 1 t) (iblk m c 2 t) (iblk m c 3 t) (iblk m c 4 t) := by
    rw [acc_succ]; unfold accT
    rw [show t.val / 43 = n / 43 by omega, show t.val % 43 = n % 43 + 1 by omega]
  rw [PhiS_castSucc m c t, ePhi, PhiS_succ, eacc]
  have e43 : acc m c (t.val / 43) 43 = AM (acc m c (n / 43) (n % 43 + 1)) (cx m c (t.val / 43)) (sx m c (t.val / 43)) (iblk m c 1 t) (iblk m c 2 t) (iblk m c 3 t) (iblk m c 4 t) := by
    rw [← eacc, h1]
  rw [e43]
  iintro ⟨⟨⟨⟨%H, %hH, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hinv : Inv m c t.val (UPD (grid0.coords t) H (TL (cx m c (t.val / 43)) (sx m c (t.val / 43)) (iblk m c 1 t) (iblk m c 2 t) (iblk m c 3 t) (iblk m c 4 t))) :=
    upd_inv m c t H (fun y hy => by rw [hn] at hy ⊢; exact inv_prev m c n (by rw [← hn]; exact h0) H hH y hy)
  rw [← inv_last m c t.val h1 _ hinv]
  iapply (run_C c (grid0.coords t) _ _ _ _ _ _ _ _ _ _ _ _ _ _ _ _ _ _ _ _ _ _ (mt (hcond1 t).mp h0) ((hcond2 t).mpr h1) (iblk m c 0 t) (iblk m c 1 t) (iblk m c 2 t) (iblk m c 3 t) (iblk m c 4 t) _ _ (cx m c (t.val / 43)) (sx m c (t.val / 43)) H (acc m c (n / 43) (n % 43 + 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro
        exact hinv
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 43 = 0
  · exact body_A m c t h0 (by omega)
  · by_cases h1 : t.val % 43 = 42
    · exact body_C m c t h0 h1
    · exact body_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant before the first point follows from the scratch buffers' presence. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- The invariant after the last point gives the scratch buffers back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

/-! # The run and the frame -/

set_option backward.isDefEq.respectTransparency.types false in
/-- Every weakly fair execution of the program ends with the pipeline's arrays at what the proof data says and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program's run: it ends with every window's array as the points leave it and everything else as it was. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.HandKernelIdeal.Spec.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the kernel's stores hold, as functions of what it loads -/

/-- The row codes the kernel stores from a block of `x` (first column step). -/
def QC (x : Vec F S512x4096 .bf16) : Vec F S512x4096 .fp8e4m3 :=
  k0_pay19 (k0_pay3 x) (k0_pay7 (k0_pay4 x) (k0_pay5 x) (k0_pay6 x) 4#32)

/-- The row scales the kernel stores from a block of `x` (first column step). -/
def QS (x : Vec F S512x4096 .bf16) : Vec F S512x1 .f32 :=
  k0_pay18 (k0_pay9 (k0_pay4 x) (k0_pay5 x) (k0_pay6 x) 4#32) (k0_pay10 (k0_pay4 x) (k0_pay5 x) (k0_pay6 x) 4#32) 23#32

/-- The 256 hidden columns one step computes, from the codes, the row scales, the two weight blocks and their scales. -/
def TL (cx : Vec F S512x4096 .fp8e4m3) (sx : Vec F S512x1 .f32) (wg wu : Vec F S4096x256 .fp8e4m3) (sg su : Vec F S1x256 .f32) :
    Vec F S512x256 .f32 :=
  k0_pay22 cx sx wg sg wu su

/-- The running row maximum after one more block of columns. -/
def AM (a : Vec F S512x1 .f32) (cx : Vec F S512x4096 .fp8e4m3) (sx : Vec F S512x1 .f32) (wg wu : Vec F S4096x256 .fp8e4m3)
    (sg su : Vec F S1x256 .f32) : Vec F S512x1 .f32 :=
  k0_pay1 a (k0_pay23 cx sx wg sg wu su)

/-- The row scales of the hidden activations from their row maxima (last column step). -/
def HS (a : Vec F S512x1 .f32) : Vec F S512x1 .f32 :=
  k0_pay16 a (k0_pay11 a) (k0_pay12 a) (k0_pay13 a) (k0_pay14 a)

/-- The codes of the hidden activations from their row maxima and all their columns (last column step). -/
def HC (a : Vec F S512x1 .f32) (h : Vec F S512x11008 .f32) : Vec F S512x11008 .fp8e4m3 :=
  k0_pay2 (k0_pay15 a (k0_pay11 a) (k0_pay12 a) (k0_pay13 a) (k0_pay14 a)) k0_pay17 h

/-- The hidden buffer after one step: the step's 256 columns at `k0_off1`, the others as they were. -/
def UPD (i : grid0.Coords) (H : Vec F S512x11008 .f32) (w : Vec F S512x256 .f32) : Vec F S512x11008 .f32 := fun y =>
  if h : ∀ a, k0_off1 i a ≤ (y a).val ∧ (y a).val < k0_off1 i a + S512x256.size a then
    w (Rect.unitLocal (s := S512x11008) (off := k0_off1 i) (size := S512x256.size) y h)
  else H y

/-- What a buffer holding `H` reads after the step's block is stored into it. -/
theorem read_upd {sig' : RefSig} {κ : Kind} {sp : Space} (v : View sig' κ sp S512x11008 .f32) (f : v.ty.Contents (Elt F)) (i : grid0.Coords)
    (w : Vec F S512x256 .f32) :
    v.read (Elt F) (v.writes (Elt F) f [⟨Rect.unit (s := S512x11008) (k0_off1 i) S512x256.size (k0_off1_inb i), w⟩]) = UPD i (v.read (Elt F) f) w := by
  funext y
  rw [View.read_writes_cons_unit v f (k0_off1_inb i) w [] y rfl]
  rfl

end Cert.KernelIdeal.Hand

end
-- ==== Proof.HandKernelIdeal.Points.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernelIdeal.Spec
public import Idealize.ShloMosaic.Lib.WritesUnit
public import Idealize.ShloMosaic.Lib.Pointwise
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid's points and what each of them computes -/

/-- The body's first condition holds at the points that start a block of rows. -/
theorem hcond1 : ∀ t : Fin cfg0.N, k0_cond1 (grid0.coords t) = 1#1 ↔ t.val % 43 = 0 :=
  (fun t => by
    have ht : t.val < 1548 := Nat.lt_of_lt_of_eq t.isLt N_0
    have e1 : (grid0.coords t 1).val = t.val / 1 % 43 := Pipeline.Grid.coords_val t 1 (by decide) rfl
    simp only [k0_cond1, e1]
    word_cmp
   : ∀ t : Fin grid0.N, k0_cond1 (grid0.coords t) = 1#1 ↔ t.val % 43 = 0)

/-- The body's second condition holds at the points that end a block of rows. -/
theorem hcond2 : ∀ t : Fin cfg0.N, k0_cond2 (grid0.coords t) = 1#1 ↔ t.val % 43 = 42 :=
  (fun t => by
    have ht : t.val < 1548 := Nat.lt_of_lt_of_eq t.isLt N_0
    have e1 : (grid0.coords t 1).val = t.val / 1 % 43 := Pipeline.Grid.coords_val t 1 (by decide) rfl
    simp only [k0_cond2, e1]
    word_cmp
   : ∀ t : Fin grid0.N, k0_cond2 (grid0.coords t) = 1#1 ↔ t.val % 43 = 42)

/-- Where the step's hidden columns are stored. -/
theorem off1_at (t : Fin cfg0.N) : k0_off1 (grid0.coords t) = ![0, (t.val % 43) * 256] := by
  have ht : t.val < 1548 := Nat.lt_of_lt_of_eq t.isLt N_0
  have e1 : (grid0.coords t 1).val = t.val / 1 % 43 := Pipeline.Grid.coords_val t 1 (by decide) rfl
  simp only [k0_off1, e1, Scalar.muli, Scalar.indexCast]
  congr 1
  simp [IntOp.muli, BitVec.toNat_mul, BitVec.toNat_ofNat]
  omega

/-- The grid has 1548 points (the configuration's spelling). -/
theorem N_cfg : cfg0.N = 1548 := N_0

/-- Point number `n`, for any `n`. -/
def pt (n : ℕ) : Fin cfg0.N := ⟨n % 1548, by rw [N_cfg]; exact Nat.mod_lt _ (by decide)⟩

/-- A point is the one with its number. -/
theorem pt_val (t : Fin cfg0.N) : pt t.val = t := by
  have ht : t.val < 1548 := Nat.lt_of_lt_of_eq t.isLt N_0
  exact Fin.ext (Nat.mod_eq_of_lt ht)

variable (m : (ℓ : Loc nD τ sig) → Buf (Elt F) ℓ) (ρ : Dev nD → PrngReg)

/-- The codes of row block `i` of `x`. -/
def cx (c : Dev nD) (i : ℕ) : Vec F S512x4096 .fp8e4m3 := QC (iblk m c 0 (pt (43 * i)))
/-- The scales of row block `i` of `x`. -/
def sx (c : Dev nD) (i : ℕ) : Vec F S512x1 .f32 := QS (iblk m c 0 (pt (43 * i)))
/-- The hidden columns of point `t`. -/
def tileT (c : Dev nD) (i : ℕ) (t : Fin cfg0.N) : Vec F S512x256 .f32 :=
  TL (cx m c i) (sx m c i) (iblk m c 1 t) (iblk m c 2 t) (iblk m c 3 t) (iblk m c 4 t)
/-- The running maximum after point `t`, from the one before. -/
def accT (c : Dev nD) (i : ℕ) (t : Fin cfg0.N) (a : Vec F S512x1 .f32) : Vec F S512x1 .f32 :=
  AM a (cx m c i) (sx m c i) (iblk m c 1 t) (iblk m c 2 t) (iblk m c 3 t) (iblk m c 4 t)
/-- The running maximum of row block `i` after `j` column steps. -/
def acc (c : Dev nD) (i : ℕ) : ℕ → Vec F S512x1 .f32
  | 0 => k0_pay20
  | j + 1 => accT m c i (pt (43 * i + j)) (acc c i j)
/-- All the hidden columns of row block `i`. -/
def hid (c : Dev nD) (i : ℕ) : Vec F S512x11008 .f32 := fun y =>
  tileT m c i (pt (43 * i + (y 1).val / 256)) (ix2 (y 0) (⟨(y 1).val % 256, Nat.mod_lt _ (by decide)⟩ : Fin 256))

/-- What is known of the hidden buffer after point `n`: the columns stored so far of its row block. -/
def Inv (c : Dev nD) (n : ℕ) (H : Vec F S512x11008 .f32) : Prop :=
  ∀ y : S512x11008.Idx, (y 1).val < (n % 43 + 1) * 256 → H y = hid m c (n / 43) y

/-- A point is given by its row block and its column step. -/
theorem pt_row (t : Fin cfg0.N) : pt (43 * (t.val / 43) + t.val % 43) = t := by
  rw [Nat.div_add_mod]; exact pt_val t

/-- The first point of a row block. -/
theorem pt_first (t : Fin cfg0.N) (h : t.val % 43 = 0) : pt (43 * (t.val / 43)) = t := by
  have := pt_row t; rwa [h, Nat.add_zero] at this

/-- One step keeps what is known of the hidden buffer: the columns known before it, and its own. -/
theorem upd_inv (c : Dev nD) (t : Fin cfg0.N) (H : Vec F S512x11008 .f32)
    (hH : ∀ y : S512x11008.Idx, (y 1).val < (t.val % 43) * 256 → H y = hid m c (t.val / 43) y) :
    Inv m c t.val (UPD (grid0.coords t) H (tileT m c (t.val / 43) t)) := by
  intro y hy
  have hb0 : ∀ a : Fin 2, k0_off1 (grid0.coords t) a = (![0, (t.val % 43) * 256] : Fin 2 → ℕ) a := fun a => by rw [off1_at]
  have hb1 : k0_off1 (grid0.coords t) 1 = (t.val % 43) * 256 := hb0 1
  have hbz : k0_off1 (grid0.coords t) 0 = 0 := hb0 0
  have hy0 : (y 0).val < 512 := (y 0).isLt
  unfold UPD
  by_cases h : ∀ a, k0_off1 (grid0.coords t) a ≤ (y a).val ∧ (y a).val < k0_off1 (grid0.coords t) a + S512x256.size a
  · rw [dif_pos h]
    have h1 := h 1
    rw [hb1] at h1
    have h1b : (y 1).val < t.val % 43 * 256 + 256 := h1.2
    have h1a : t.val % 43 * 256 ≤ (y 1).val := h1.1
    have ej : (y 1).val / 256 = t.val % 43 := by omega
    unfold hid
    rw [ej, pt_row]
    congr 1
    funext a
    apply Fin.ext
    rw [Rect.unitLocal_val]
    fin_cases a
    · show (y 0).val - k0_off1 (grid0.coords t) 0 = (y 0).val
      rw [hbz]; rfl
    · show (y 1).val - k0_off1 (grid0.coords t) 1 = (y 1).val % 256
      rw [hb1]; omega
  · rw [dif_neg h]
    apply hH
    by_contra hlt
    apply h
    intro a
    fin_cases a
    · show k0_off1 (grid0.coords t) 0 ≤ (y 0).val ∧ (y 0).val < k0_off1 (grid0.coords t) 0 + 512
      rw [hbz]; omega
    · show k0_off1 (grid0.coords t) 1 ≤ (y 1).val ∧ (y 1).val < k0_off1 (grid0.coords t) 1 + 256
      rw [hb1]; omega

/-- After a last column step the hidden buffer is known whole. -/
theorem inv_last (c : Dev nD) (n : ℕ) (h : n % 43 = 42) (H : Vec F S512x11008 .f32) (hH : Inv m c n H) : H = hid m c (n / 43) := by
  funext y
  have hy : (y 1).val < 11008 := (y 1).isLt
  exact hH y (by rw [h]; omega)

/-- What is known after the point before is what a step within the row block starts from. -/
theorem inv_prev (c : Dev nD) (n : ℕ) (h : (n + 1) % 43 ≠ 0) (H : Vec F S512x11008 .f32) (hH : Inv m c n H) :
    ∀ y : S512x11008.Idx, (y 1).val < ((n + 1) % 43) * 256 → H y = hid m c ((n + 1) / 43) y := by
  intro y hy
  have e1 : (n + 1) % 43 = n % 43 + 1 := by omega
  have e2 : (n + 1) / 43 = n / 43 := by omega
  rw [e2]; exact hH y (by rw [e1] at hy; exact hy)

end Cert.KernelIdeal.Hand

end
-- ==== Proof.HandKernelIdeal.Dats.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernelIdeal.Points
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data -/

/-- The staging buffer of `x` at point `t`. -/
abbrev ms0 (t : Fin cfg0.N) : Memref sig .tc .vmem S512x4096 .bf16 := win0_0.stage (cfg0.slots t 0)
/-- The staging buffer of the gate weights at point `t`. -/
abbrev ms1 (t : Fin cfg0.N) : Memref sig .tc .vmem S4096x256 .fp8e4m3 := win0_1.stage (cfg0.slots t 1)
/-- The staging buffer of the up weights at point `t`. -/
abbrev ms2 (t : Fin cfg0.N) : Memref sig .tc .vmem S4096x256 .fp8e4m3 := win0_2.stage (cfg0.slots t 2)
/-- The staging buffer of the gate scales at point `t`. -/
abbrev ms3 (t : Fin cfg0.N) : Memref sig .tc .vmem S1x256 .f32 := win0_3.stage (cfg0.slots t 3)
/-- The staging buffer of the up scales at point `t`. -/
abbrev ms4 (t : Fin cfg0.N) : Memref sig .tc .vmem S1x256 .f32 := win0_4.stage (cfg0.slots t 4)
/-- The staging buffer of the hidden rows' scales at point `t`. -/
abbrev ms5 (t : Fin cfg0.N) : Memref sig .tc .vmem S512x1 .f32 := win0_5.stage (cfg0.slots t 5)
/-- The staging buffer of the hidden rows' codes at point `t`. -/
abbrev ms6 (t : Fin cfg0.N) : Memref sig .tc .vmem S512x11008 .fp8e4m3 := win0_6.stage (cfg0.slots t 6)
/-- The staging buffer of the codes of `x` at point `t`. -/
abbrev ms7 (t : Fin cfg0.N) : Memref sig .tc .vmem S512x4096 .fp8e4m3 := win0_7.stage (cfg0.slots t 7)
/-- The staging buffer of the scales of `x` at point `t`. -/
abbrev ms8 (t : Fin cfg0.N) : Memref sig .tc .vmem S512x1 .f32 := win0_8.stage (cfg0.slots t 8)
/-- The buffer of the hidden values. -/
abbrev scM0 : Memref sig .tc .vmem S512x11008 .f32 := Memref.whole cc0_scratch0
/-- The buffer of the running maximum. -/
abbrev scM1 : Memref sig .tc .vmem S512x1 .f32 := Memref.whole cc0_scratch1

/-- The launch's invariant with the two scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

variable (m : (ℓ : Loc nD τ sig) → Buf (Elt F) ℓ) (ρ : Dev nD → PrngReg)

/-- The body's invariant: before the first point what the launch hands over, after point `n` the hidden buffer with its
    columns so far and the running maximum. -/
def PhiS (c : Dev nD) : (n : ℕ) → n ≤ cfg0.N → sProp 𝕄
  | 0, _ => Pipeline.ΦA spec0 c
  | n + 1, _ => iprop(((∃ H, ⌜Inv m c n H⌝ ∗ owns (c : Thread nD τ) scM0 fullShare H)
      ∗ owns (c : Thread nD τ) scM1 fullShare (acc m c (n / 43) (n % 43 + 1))) ∗ (∃ r, prngReg c r))

/-- The invariant after a point. -/
theorem PhiS_succ (c : Dev nD) (n : ℕ) (hn : n < cfg0.N) : PhiS m c (n + 1) hn
    = iprop(((∃ H, ⌜Inv m c n H⌝ ∗ owns (c : Thread nD τ) scM0 fullShare H)
      ∗ owns (c : Thread nD τ) scM1 fullShare (acc m c (n / 43) (n % 43 + 1))) ∗ (∃ r, prngReg c r)) := rfl

/-- The invariant before any point, its named contents forgotten. -/
theorem PhiS_forget (c : Dev nD) : ∀ (n : ℕ) (h : n ≤ cfg0.N), PhiS m c n h ⊢ Pipeline.ΦA spec0 c
  | 0, _ => Idealize.SL.BI.Entails.refl _
  | n + 1, h => by
    rw [PhiS_succ m c n h, PhiA_eq]
    iintro ⟨⟨⟨%H, %hH, HS0⟩, HS1⟩, Hg⟩
    isplitl [HS0 HS1]
    · isplitl [HS0]
      · iexists _; iexact HS0
      iexists _; iexact HS1
    iexact Hg

/-- The proof data: the inputs' blocks stay, windows 7 and 8 hold the codes and scales of the row block from its first
    point on, windows 5 and 6 those of the hidden activations at its last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => HS (acc m c (t.val / 43) 43)
    | ⟨6, _⟩ => HC (acc m c (t.val / 43) 43) (hid m c (t.val / 43))
    | ⟨7, _⟩ => cx m c (t.val / 43)
    | ⟨8, _⟩ => sx m c (t.val / 43)
  Φ t := PhiS m c t.val (Nat.le_of_lt_succ t.isLt)
  q w := Pipeline.shareOf spec0 w
  owed _ := 0

/-- Every window's array at the start is what the host code left there. -/
theorem A_eq (c : Dev nD) (w : Fin cfg0.W) : (dats m 0 c).A w = V m c (Pipeline.arrRef spec0 w) := by
  dsimp only [dats]

/-- The invariant before a point that is not the first is the one after the point before. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- After the body the window of `x` holds its block. -/
theorem after_0 (c : Dev nD) (t : Fin cfg0.N) : (dats m 0 c).after 0 t = iblk m c 0 t := by dsimp only [dats]
/-- After the body the window of the gate weights holds its block. -/
theorem after_1 (c : Dev nD) (t : Fin cfg0.N) : (dats m 0 c).after 1 t = iblk m c 1 t := by dsimp only [dats]
/-- After the body the window of the up weights holds its block. -/
theorem after_2 (c : Dev nD) (t : Fin cfg0.N) : (dats m 0 c).after 2 t = iblk m c 2 t := by dsimp only [dats]
/-- After the body the window of the gate scales holds its block. -/
theorem after_3 (c : Dev nD) (t : Fin cfg0.N) : (dats m 0 c).after 3 t = iblk m c 3 t := by dsimp only [dats]
/-- After the body the window of the up scales holds its block. -/
theorem after_4 (c : Dev nD) (t : Fin cfg0.N) : (dats m 0 c).after 4 t = iblk m c 4 t := by dsimp only [dats]
/-- What the window of the hidden rows' scales is to hold when its row block is written back. -/
theorem after_5 (c : Dev nD) (t : Fin cfg0.N) : (dats m 0 c).after 5 t = HS (acc m c (t.val / 43) 43) := by dsimp only [dats]
/-- What the window of the hidden rows' codes is to hold when its row block is written back. -/
theorem after_6 (c : Dev nD) (t : Fin cfg0.N) : (dats m 0 c).after 6 t = HC (acc m c (t.val / 43) 43) (hid m c (t.val / 43)) := by dsimp only [dats]
/-- What the window of the codes of `x` is to hold when its row block is written back. -/
theorem after_7 (c : Dev nD) (t : Fin cfg0.N) : (dats m 0 c).after 7 t = cx m c (t.val / 43) := by dsimp only [dats]
/-- What the window of the scales of `x` is to hold when its row block is written back. -/
theorem after_8 (c : Dev nD) (t : Fin cfg0.N) : (dats m 0 c).after 8 t = sx m c (t.val / 43) := by dsimp only [dats]

/-- Before the body the window of `x` holds its block. -/
theorem before_0 (c : Dev nD) (t : Fin cfg0.N) (d) : (dats m 0 c).before 0 t d = iblk m c 0 t :=
  before0_0_of m (dats m 0 c) (A_eq m c 0) (after_0 m c) t d
/-- Before the body the window of the gate weights holds its block. -/
theorem before_1 (c : Dev nD) (t : Fin cfg0.N) (d) : (dats m 0 c).before 1 t d = iblk m c 1 t :=
  before0_1_of m (dats m 0 c) (A_eq m c 1) (after_1 m c) t d
/-- Before the body the window of the up weights holds its block. -/
theorem before_2 (c : Dev nD) (t : Fin cfg0.N) (d) : (dats m 0 c).before 2 t d = iblk m c 2 t :=
  before0_2_of m (dats m 0 c) (A_eq m c 2) (after_2 m c) t d
/-- Before the body the window of the gate scales holds its block. -/
theorem before_3 (c : Dev nD) (t : Fin cfg0.N) (d) : (dats m 0 c).before 3 t d = iblk m c 3 t :=
  before0_3_of m (dats m 0 c) (A_eq m c 3) (after_3 m c) t d
/-- Before the body the window of the up scales holds its block. -/
theorem before_4 (c : Dev nD) (t : Fin cfg0.N) (d) : (dats m 0 c).before 4 t d = iblk m c 4 t :=
  before0_4_of m (dats m 0 c) (A_eq m c 4) (after_4 m c) t d

/-! ## Where the output windows are idle, and where they are written back -/

/-- The window of the codes of `x` is not stored to after the first column step. -/
theorem idle_7 (t : Fin cfg0.N) (h : ¬t.val % 43 = 0) : cfg0.idle 7 (cfg0.grid.coords t) = true := by
  show (!(k0_cond1 (grid0.coords t) == 1#1)) = true
  have := mt (hcond1 t).mp h
  simp [this]
/-- The window of the codes of `x` is stored to at the first column step. -/
theorem live_7 (t : Fin cfg0.N) (h : t.val % 43 = 0) : cfg0.idle 7 (cfg0.grid.coords t) = false := by
  show (!(k0_cond1 (grid0.coords t) == 1#1)) = false
  have := (hcond1 t).mpr h
  simp [this]
/-- The window of the scales of `x` is not stored to after the first column step. -/
theorem idle_8 (t : Fin cfg0.N) (h : ¬t.val % 43 = 0) : cfg0.idle 8 (cfg0.grid.coords t) = true := idle_7 t h
/-- The window of the scales of `x` is stored to at the first column step. -/
theorem live_8 (t : Fin cfg0.N) (h : t.val % 43 = 0) : cfg0.idle 8 (cfg0.grid.coords t) = false := live_7 t h
/-- The window of the hidden rows' scales is not stored to before the last column step. -/
theorem idle_5 (t : Fin cfg0.N) (h : ¬t.val % 43 = 42) : cfg0.idle 5 (cfg0.grid.coords t) = true := by
  show (!(k0_cond2 (grid0.coords t) == 1#1)) = true
  have := mt (hcond2 t).mp h
  simp [this]
/-- The window of the hidden rows' scales is stored to at the last column step. -/
theorem live_5 (t : Fin cfg0.N) (h : t.val % 43 = 42) : cfg0.idle 5 (cfg0.grid.coords t) = false := by
  show (!(k0_cond2 (grid0.coords t) == 1#1)) = false
  have := (hcond2 t).mpr h
  simp [this]
/-- The window of the hidden rows' codes is not stored to before the last column step. -/
theorem idle_6 (t : Fin cfg0.N) (h : ¬t.val % 43 = 42) : cfg0.idle 6 (cfg0.grid.coords t) = true := idle_5 t h
/-- The window of the hidden rows' codes is stored to at the last column step. -/
theorem live_6 (t : Fin cfg0.N) (h : t.val % 43 = 42) : cfg0.idle 6 (cfg0.grid.coords t) = false := live_5 t h

/-- A result window is not written back before the last column step. -/
theorem noflush {w : Fin cfg0.W} (hf : ∀ t : Fin cfg0.N, (cfg0.win w).flush t = true ↔ t.val % 43 = 42) (t : Fin cfg0.N) (h : ¬t.val % 43 = 42) :
    (cfg0.win w).flush t = false := by
  rw [← Bool.not_eq_true]; exact mt (hf t).mp h

/-- Within a row block, window 7 holds what its first point stored. -/
theorem before_7 (c : Dev nD) : ∀ (n : ℕ) (t : Fin cfg0.N), t.val = n → ¬t.val % 43 = 0 → ∀ d, (dats m 0 c).before 7 t d = cx m c (t.val / 43)
  | 0, t, ht, h, d => absurd (by rw [ht]) h
  | n + 1, t, ht, h, d => by
    have hN := t.isLt
    rw [(dats m 0 c).before_of_pos 7 t (by omega) ((cfg0.win 7).fetch_out rfl t) d]
    rw [noflush flush0_7 _ (by show ¬(t.val - 1) % 43 = 42; omega), if_neg Bool.false_ne_true]
    have e : (t.val - 1) / 43 = t.val / 43 := by omega
    unfold Dat.left
    by_cases h0 : (t.val - 1) % 43 = 0
    · rw [live_7 ⟨t.val - 1, by omega⟩ h0]
      show (dats m 0 c).kept 7 ⟨t.val - 1, by omega⟩ d = _
      unfold Dat.kept
      rw [Pipeline.fill_of_clip_none 7 _ (fun _ => rfl) d ((dats m 0 c).after 7 _), Window.fill_cut, after_7]
      show cx m c ((t.val - 1) / 43) = _
      rw [e]
    · rw [idle_7 ⟨t.val - 1, by omega⟩ h0]
      show (dats m 0 c).before 7 ⟨t.val - 1, by omega⟩ d = _
      rw [before_7 c n ⟨t.val - 1, by omega⟩ (by show t.val - 1 = n; omega) h0 d]
      show cx m c ((t.val - 1) / 43) = _
      rw [e]

/-- Within a row block, window 8 holds what its first point stored. -/
theorem before_8 (c : Dev nD) : ∀ (n : ℕ) (t : Fin cfg0.N), t.val = n → ¬t.val % 43 = 0 → ∀ d, (dats m 0 c).before 8 t d = sx m c (t.val / 43)
  | 0, t, ht, h, d => absurd (by rw [ht]) h
  | n + 1, t, ht, h, d => by
    have hN := t.isLt
    rw [(dats m 0 c).before_of_pos 8 t (by omega) ((cfg0.win 8).fetch_out rfl t) d]
    rw [noflush flush0_8 _ (by show ¬(t.val - 1) % 43 = 42; omega), if_neg Bool.false_ne_true]
    have e : (t.val - 1) / 43 = t.val / 43 := by omega
    unfold Dat.left
    by_cases h0 : (t.val - 1) % 43 = 0
    · rw [live_8 ⟨t.val - 1, by omega⟩ h0]
      show (dats m 0 c).kept 8 ⟨t.val - 1, by omega⟩ d = _
      unfold Dat.kept
      rw [Pipeline.fill_of_clip_none 8 _ (fun _ => rfl) d ((dats m 0 c).after 8 _), Window.fill_cut, after_8]
      show sx m c ((t.val - 1) / 43) = _
      rw [e]
    · rw [idle_8 ⟨t.val - 1, by omega⟩ h0]
      show (dats m 0 c).before 8 ⟨t.val - 1, by omega⟩ d = _
      rw [before_8 c n ⟨t.val - 1, by omega⟩ (by show t.val - 1 = n; omega) h0 d]
      show sx m c ((t.val - 1) / 43) = _
      rw [e]

end Cert.KernelIdeal.Hand

end
-- ==== Proof.HandKernelIdeal.RunA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernelIdeal.Spec
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first column step (`k0_cond1`): it quantises the block of `x` into the two output windows it then reads, clears the running maximum, and stores the first block of hidden columns. -/
theorem run_A (c : Dev nD) (i : grid0.Coords) (arg2 : Memref sig .tc .vmem S512x4096 .bf16) (harg2 : arg2.IsWhole) (arg3 : Memref sig .tc .vmem S4096x256 .fp8e4m3) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x11008 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x11008 .f32) (harg11 : arg11.IsWhole) (arg12 : Memref sig .tc .vmem S512x1 .f32) (harg12 : arg12.IsWhole) (hc0 : k0_cond1 i = 1#1) (hc1 : ¬k0_cond2 i = 1#1)
    (x0 : Vec F S512x4096 .bf16) (x1 : Vec F S4096x256 .fp8e4m3) (x2 : Vec F S4096x256 .fp8e4m3) (x3 : Vec F S1x256 .f32) (x4 : Vec F S1x256 .f32) (y5 : Vec F S512x1 .f32) (y6 : Vec F S512x11008 .fp8e4m3) (y7 : Vec F S512x4096 .fp8e4m3) (y8 : Vec F S512x1 .f32) (H : Vec F S512x11008 .f32) (A : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare H ∗ owns (c : Thread nD τ) arg12 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (QC x0) ∗ owns (c : Thread nD τ) arg10 fullShare (QS x0) ∗ owns (c : Thread nD τ) arg11 fullShare (UPD i H (TL (QC x0) (QS x0) x1 x2 x3 x4)) ∗ owns (c : Thread nD τ) arg12 fullShare (AM k0_pay20 (QC x0) (QS x0) x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part5_eq_skeleton, k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); refine (View.read_writes_full _ _ _ _ _).trans ?_; (repeat first | rw [View.readAt_full] | rw [View.readCov_full] | rw [read_upd] | rw [Memref.IsWhole.read_unread]); rfl
  isplitl [H10]
  · iexists _; isplitr; swap; · iexact H10
    ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); refine (View.read_writes_full _ _ _ _ _).trans ?_; (repeat first | rw [View.readAt_full] | rw [View.readCov_full] | rw [read_upd] | rw [Memref.IsWhole.read_unread]); rfl
  isplitl [H11]
  · iexists _; isplitr; swap; · iexact H11
    ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); (repeat first | rw [View.readAt_full] | rw [View.readCov_full] | rw [read_upd] | rw [Memref.IsWhole.read_unread]); rfl
  iexists _; isplitr; swap; · iexact H12
  ipureintro; (try repeat delta run_A.sl.v3 run_A.sl.v5 run_A.sl.v31 run_A.sl.H9_1 run_A.sl.H10_1 run_A.sl.H12_1 run_A.sl.r run_A.sl.r_1 run_A.sl.r_2 run_A.sl.r_3 run_A.sl.r_4 run_A.sl.r_5 run_A.sl.r_6 run_A.sl.r_7); refine (View.read_writes_full _ _ _ _ _).trans ?_; (repeat first | rw [View.readAt_full] | rw [View.readCov_full] | rw [read_upd] | rw [Memref.IsWhole.read_unread]); rfl

end Cert.KernelIdeal.Hand

end
-- ==== Proof.HandKernelIdeal.RunB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernelIdeal.Spec
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a column step that is neither the first nor the last: one more block of hidden columns and the running maximum over it. -/
theorem run_B (c : Dev nD) (i : grid0.Coords) (arg2 : Memref sig .tc .vmem S512x4096 .bf16) (harg2 : arg2.IsWhole) (arg3 : Memref sig .tc .vmem S4096x256 .fp8e4m3) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x11008 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x11008 .f32) (harg11 : arg11.IsWhole) (arg12 : Memref sig .tc .vmem S512x1 .f32) (harg12 : arg12.IsWhole) (hc0 : ¬k0_cond1 i = 1#1) (hc1 : ¬k0_cond2 i = 1#1)
    (x0 : Vec F S512x4096 .bf16) (x1 : Vec F S4096x256 .fp8e4m3) (x2 : Vec F S4096x256 .fp8e4m3) (x3 : Vec F S1x256 .f32) (x4 : Vec F S1x256 .f32) (y5 : Vec F S512x1 .f32) (y6 : Vec F S512x11008 .fp8e4m3) (y7 : Vec F S512x4096 .fp8e4m3) (y8 : Vec F S512x1 .f32) (H : Vec F S512x11008 .f32) (A : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare H ∗ owns (c : Thread nD τ) arg12 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare (UPD i H (TL y7 y8 x1 x2 x3 x4)) ∗ owns (c : Thread nD τ) arg12 fullShare (AM A y7 y8 x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try repeat delta run_B.sl.r run_B.sl.r_1); (repeat first | rw [View.readAt_full] | rw [View.readCov_full] | rw [read_upd] | rw [Memref.IsWhole.read_unread]); rfl
  iexists _; isplitr; swap; · iexact H12
  ipureintro; (try repeat delta run_B.sl.r run_B.sl.r_1); refine (View.read_writes_full _ _ _ _ _).trans ?_; (repeat first | rw [View.readAt_full] | rw [View.readCov_full] | rw [read_upd] | rw [Memref.IsWhole.read_unread]); rfl

end Cert.KernelIdeal.Hand

end
-- ==== Proof.HandKernelIdeal.RunC.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernelIdeal.Spec
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last column step (`k0_cond2`): the last block of hidden columns, then the quantisation of all of them into the two outputs. -/
theorem run_C (c : Dev nD) (i : grid0.Coords) (arg2 : Memref sig .tc .vmem S512x4096 .bf16) (harg2 : arg2.IsWhole) (arg3 : Memref sig .tc .vmem S4096x256 .fp8e4m3) (harg3 : arg3.IsWhole) (arg4 : Memref sig .tc .vmem S4096x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x11008 .fp8e4m3) (harg8 : arg8.IsWhole) (arg9 : Memref sig .tc .vmem S512x4096 .fp8e4m3) (harg9 : arg9.IsWhole) (arg10 : Memref sig .tc .vmem S512x1 .f32) (harg10 : arg10.IsWhole) (arg11 : Memref sig .tc .vmem S512x11008 .f32) (harg11 : arg11.IsWhole) (arg12 : Memref sig .tc .vmem S512x1 .f32) (harg12 : arg12.IsWhole) (hc0 : ¬k0_cond1 i = 1#1) (hc1 : k0_cond2 i = 1#1)
    (x0 : Vec F S512x4096 .bf16) (x1 : Vec F S4096x256 .fp8e4m3) (x2 : Vec F S4096x256 .fp8e4m3) (x3 : Vec F S1x256 .f32) (x4 : Vec F S1x256 .f32) (y5 : Vec F S512x1 .f32) (y6 : Vec F S512x11008 .fp8e4m3) (y7 : Vec F S512x4096 .fp8e4m3) (y8 : Vec F S512x1 .f32) (H : Vec F S512x11008 .f32) (A : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare H ∗ owns (c : Thread nD τ) arg12 fullShare A
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (HS (AM A y7 y8 x1 x2 x3 x4)) ∗ owns (c : Thread nD τ) arg8 fullShare (HC (AM A y7 y8 x1 x2 x3 x4) (UPD i H (TL y7 y8 x1 x2 x3 x4))) ∗ owns (c : Thread nD τ) arg9 fullShare y7 ∗ owns (c : Thread nD τ) arg10 fullShare y8 ∗ owns (c : Thread nD τ) arg11 fullShare (UPD i H (TL y7 y8 x1 x2 x3 x4)) ∗ owns (c : Thread nD τ) arg12 fullShare (AM A y7 y8 x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part5_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); refine (View.read_writes_full _ _ _ _ _).trans ?_; (repeat first | rw [View.readAt_full] | rw [View.readCov_full] | rw [read_upd] | rw [Memref.IsWhole.read_unread]); rfl
  isplitl [H8]
  · iexists _; isplitr; swap; · iexact H8
    ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); refine (View.read_writes_full _ _ _ _ _).trans ?_; (repeat first | rw [View.readAt_full] | rw [View.readCov_full] | rw [read_upd] | rw [Memref.IsWhole.read_unread]); rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); (repeat first | rw [View.readAt_full] | rw [View.readCov_full] | rw [read_upd] | rw [Memref.IsWhole.read_unread]); rfl
  iexists _; isplitr; swap; · iexact H12
  ipureintro; (try repeat delta run_C.sl.H11_1 run_C.sl.H12_1 run_C.sl.v42 run_C.sl.v145 run_C.sl.r run_C.sl.r_1 run_C.sl.r_2 run_C.sl.r_3 run_C.sl.r_4 run_C.sl.r_5 run_C.sl.r_6 run_C.sl.r_7); refine (View.read_writes_full _ _ _ _ _).trans ?_; (repeat first | rw [View.readAt_full] | rw [View.readCov_full] | rw [read_upd] | rw [Memref.IsWhole.read_unread]); rfl

end Cert.KernelIdeal.Hand

end
-- ==== Proof.HandKernelIdeal.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.HandKernelIdeal.Dats
public import proofs.«01_k».proof.Proof.HandKernelIdeal.RunA
public import proofs.«01_k».proof.Proof.HandKernelIdeal.RunB
public import proofs.«01_k».proof.Proof.HandKernelIdeal.RunC
public import Idealize.ShloMosaic.Lib.WritesUnit
public import Idealize.ShloMosaic.Lib.Claim
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation, point by point -/

variable (m : (ℓ : Loc nD τ sig) → Buf (Elt F) ℓ) (ρ : Dev nD → PrngReg)

/-- One more step of the running maximum, at a grid point. -/
theorem acc_succ (c : Dev nD) (t : Fin cfg0.N) :
    acc m c (t.val / 43) (t.val % 43 + 1) = accT m c (t.val / 43) t (acc m c (t.val / 43) (t.val % 43)) := by
  show accT m c (t.val / 43) (pt (43 * (t.val / 43) + t.val % 43)) _ = _
  rw [pt_row]

/-- What a window that is stored to at point `t` holds after the body. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What a window that is written back at point `t` holds after the body. -/
theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

/-- The window of `x` keeps its block. -/
theorem leaves_0 (c : Dev nD) (t : Fin cfg0.N) :
    (dats m 0 c).leavesExact 0 t = owns (c : Thread nD τ) (ms0 t) fullShare (iblk m c 0 t) := by
  rw [leaves_live m c 0 t rfl, after_0]

/-- The window of the gate weights keeps its block. -/
theorem leaves_1 (c : Dev nD) (t : Fin cfg0.N) :
    (dats m 0 c).leavesExact 1 t = owns (c : Thread nD τ) (ms1 t) fullShare (iblk m c 1 t) := by
  rw [leaves_live m c 1 t rfl, after_1]

/-- The window of the up weights keeps its block. -/
theorem leaves_2 (c : Dev nD) (t : Fin cfg0.N) :
    (dats m 0 c).leavesExact 2 t = owns (c : Thread nD τ) (ms2 t) fullShare (iblk m c 2 t) := by
  rw [leaves_live m c 2 t rfl, after_2]

/-- The window of the gate scales keeps its block. -/
theorem leaves_3 (c : Dev nD) (t : Fin cfg0.N) :
    (dats m 0 c).leavesExact 3 t = owns (c : Thread nD τ) (ms3 t) fullShare (iblk m c 3 t) := by
  rw [leaves_live m c 3 t rfl, after_3]

/-- The window of the up scales keeps its block. -/
theorem leaves_4 (c : Dev nD) (t : Fin cfg0.N) :
    (dats m 0 c).leavesExact 4 t = owns (c : Thread nD τ) (ms4 t) fullShare (iblk m c 4 t) := by
  rw [leaves_live m c 4 t rfl, after_4]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at the first column step(s) of a row block. -/
theorem body_A (c : Dev nD) (t : Fin cfg0.N) (h0 : t.val % 43 = 0) (h1 : ¬t.val % 43 = 42) :
    bodyPre m c t ⊢ wp frame (wpE (defs₀ (F := F)) Variants.none c none) Set.univ (bodyAt0 t) (fun _ => bodyPost m c t) := by
  have hN : t.val < 1548 := lt_of_lt_of_eq t.isLt N_cfg
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [(dats m 0 c).leavesExact_idle 5 t (idle_5 t h1) (noflush flush0_5 t h1), (dats m 0 c).leavesExact_idle 6 t (idle_6 t h1) (noflush flush0_6 t h1)]
  rw [leaves_live m c 7 t (live_7 t h0), leaves_live m c 8 t (live_8 t h0), after_7, after_8]
  have ecx : cx m c (t.val / 43) = QC (iblk m c 0 t) := by unfold cx; rw [pt_first t h0]
  have esx : sx m c (t.val / 43) = QS (iblk m c 0 t) := by unfold sx; rw [pt_first t h0]
  have eacc : acc m c (t.val / 43) (t.val % 43 + 1) = AM k0_pay20 (QC (iblk m c 0 t)) (QS (iblk m c 0 t)) (iblk m c 1 t) (iblk m c 2 t) (iblk m c 3 t) (iblk m c 4 t) := by
    rw [acc_succ, h0]; unfold accT; rw [ecx, esx]; rfl
  rw [PhiS_castSucc m c t, eacc, ecx, esx]
  refine (sep_mono (PhiS_forget m c t.val _) .rfl).trans ?_
  rw [PhiA_eq]
  iintro ⟨⟨⟨⟨%H, HS0⟩, ⟨%A, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ _ _ _ _ _ _ _ _ _ _ _ _ _ _ _ _ _ _ _ _ _ ((hcond1 t).mpr h0) (mt (hcond2 t).mp h1) (iblk m c 0 t) (iblk m c 1 t) (iblk m c 2 t) (iblk m c 3 t) (iblk m c 4 t) _ _ _ _ H A Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro
        have := upd_inv m c t H (fun y hy => absurd hy (by rw [h0]; omega))
        unfold tileT at this; rw [ecx, esx] at this; exact this
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 4000000 in
/-- The body at the middle column step(s) of a row block. -/
theorem body_B (c : Dev nD) (t : Fin cfg0.N) (h0 : ¬t.val % 43 = 0) (h1 : ¬t.val % 43 = 42) :
    bodyPre m c t ⊢ wp frame (wpE (defs₀ (F := F)) Variants.none c none) Set.univ (bodyAt0 t) (fun _ => bodyPost m c t) := by
  have hN : t.val < 1548 := lt_of_lt_of_eq t.isLt N_cfg
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [(dats m 0 c).leavesExact_idle 5 t (idle_5 t h1) (noflush flush0_5 t h1), (dats m 0 c).leavesExact_idle 6 t (idle_6 t h1) (noflush flush0_6 t h1)]
  rw [(dats m 0 c).leavesExact_idle 7 t (idle_7 t h0) (noflush flush0_7 t h1), (dats m 0 c).leavesExact_idle 8 t (idle_8 t h0) (noflush flush0_8 t h1)]
  simp only [before_7 m c t.val t rfl h0, before_8 m c t.val t rfl h0]
  obtain ⟨n, hn⟩ : ∃ n, t.val = n + 1 := ⟨t.val - 1, by omega⟩
  have ePhi : PhiS m c t.val (Nat.le_of_lt t.isLt) = PhiS m c (n + 1) (by omega) := by congr 1
  have eacc : acc m c (t.val / 43) (t.val % 43 + 1) = AM (acc m c (n / 43) (n % 43 + 1)) (cx m c (t.val / 43)) (sx m c (t.val / 43)) (iblk m c 1 t) (iblk m c 2 t) (iblk m c 3 t) (iblk m c 4 t) := by
    rw [acc_succ]; unfold accT
    rw [show t.val / 43 = n / 43 by omega, show t.val % 43 = n % 43 + 1 by omega]
  rw [PhiS_castSucc m c t, ePhi, PhiS_succ, eacc]
  iintro ⟨⟨⟨⟨%H, %hH, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hinv : Inv m c t.val (UPD (grid0.coords t) H (TL (cx m c (t.val / 43)) (sx m c (t.val / 43)) (iblk m c 1 t) (iblk m c 2 t) (iblk m c 3 t) (iblk m c 4 t))) :=
    upd_inv m c t H (fun y hy => by rw [hn] at hy ⊢; exact inv_prev m c n (by rw [← hn]; exact h0) H hH y hy)
  iapply (run_B c (grid0.coords t) _ _ _ _ _ _ _ _ _ _ _ _ _ _ _ _ _ _ _ _ _ _ (mt (hcond1 t).mp h0) (mt (hcond2 t).mp h1) (iblk m c 0 t) (iblk m c 1 t) (iblk m c 2 t) (iblk m c 3 t) (iblk m c 4 t) _ _ (cx m c (t.val / 43)) (sx m c (t.val / 43)) H (acc m c (n / 43) (n % 43 + 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro
        exact hinv
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 4000000 in
/-- The body at the last column step(s) of a row block. -/
theorem body_C (c : Dev nD) (t : Fin cfg0.N) (h0 : ¬t.val % 43 = 0) (h1 : t.val % 43 = 42) :
    bodyPre m c t ⊢ wp frame (wpE (defs₀ (F := F)) Variants.none c none) Set.univ (bodyAt0 t) (fun _ => bodyPost m c t) := by
  have hN : t.val < 1548 := lt_of_lt_of_eq t.isLt N_cfg
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [leaves_live m c 5 t (live_5 t h1), leaves_live m c 6 t (live_6 t h1), after_5, after_6]
  rw [leaves_flush m c 7 t ((flush0_7 t).mpr h1), leaves_flush m c 8 t ((flush0_8 t).mpr h1), after_7, after_8]
  simp only [before_7 m c t.val t rfl h0, before_8 m c t.val t rfl h0]
  obtain ⟨n, hn⟩ : ∃ n, t.val = n + 1 := ⟨t.val - 1, by omega⟩
  have ePhi : PhiS m c t.val (Nat.le_of_lt t.isLt) = PhiS m c (n + 1) (by omega) := by congr 1
  have eacc : acc m c (t.val / 43) (t.val % 43 + 1) = AM (acc m c (n / 43) (n % 43 + 1)) (cx m c (t.val / 43)) (sx m c (t.val / 43)) (iblk m c 1 t) (iblk m c 2 t) (iblk m c 3 t) (iblk m c 4 t) := by
    rw [acc_succ]; unfold accT
    rw [show t.val / 43 = n / 43 by omega, show t.val % 43 = n % 43 + 1 by omega]
  rw [PhiS_castSucc m c t, ePhi, PhiS_succ, eacc]
  have e43 : acc m c (t.val / 43) 43 = AM (acc m c (n / 43) (n % 43 + 1)) (cx m c (t.val / 43)) (sx m c (t.val / 43)) (iblk m c 1 t) (iblk m c 2 t) (iblk m c 3 t) (iblk m c 4 t) := by
    rw [← eacc, h1]
  rw [e43]
  iintro ⟨⟨⟨⟨%H, %hH, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hinv : Inv m c t.val (UPD (grid0.coords t) H (TL (cx m c (t.val / 43)) (sx m c (t.val / 43)) (iblk m c 1 t) (iblk m c 2 t) (iblk m c 3 t) (iblk m c 4 t))) :=
    upd_inv m c t H (fun y hy => by rw [hn] at hy ⊢; exact inv_prev m c n (by rw [← hn]; exact h0) H hH y hy)
  rw [← inv_last m c t.val h1 _ hinv]
  iapply (run_C c (grid0.coords t) _ _ _ _ _ _ _ _ _ _ _ _ _ _ _ _ _ _ _ _ _ _ (mt (hcond1 t).mp h0) ((hcond2 t).mpr h1) (iblk m c 0 t) (iblk m c 1 t) (iblk m c 2 t) (iblk m c 3 t) (iblk m c 4 t) _ _ (cx m c (t.val / 43)) (sx m c (t.val / 43)) H (acc m c (n / 43) (n % 43 + 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro
        exact hinv
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 43 = 0
  · exact body_A m c t h0 (by omega)
  · by_cases h1 : t.val % 43 = 42
    · exact body_C m c t h0 h1
    · exact body_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant before the first point follows from the scratch buffers' presence. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- The invariant after the last point gives the scratch buffers back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

/-! # The run and the frame -/

set_option backward.isDefEq.respectTransparency.types false in
/-- Every weakly fair execution of the program ends with the pipeline's arrays at what the proof data says and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The program's run: it ends with every window's array as the points leave it and everything else as it was. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Quant.lean ====
module

public import Idealize.ShloMosaic.PureOps.Ideal
public import Idealize.ShloMosaic.PureOps.Ideal.Laws

@[expose] public section

noncomputable section

/-! # The power-of-two quantiser, one row's greatest magnitude at a time

The kernel finds the exponent of `r` bit by bit, comparing `r` with the powers of two whose float32 words it writes
itself; the reference takes the floor of a logarithm. Here: over the extended reals they name the same integer, and the
two power-of-two factors that the kernel multiplies are the power the reference writes. -/

namespace Cert.Quant

open Idealize.ShloMosaic

/-- The value of the float32 word whose exponent field is `b` and whose other bits are zero. -/
def thr (b : BitVec 32) : EReal := Ideal.ofBits .f32 (IntOp.shli .vector b 23#32)

/-- One step of the bit search: the field `f` with the bit `w` set where `r` is no smaller than that word's value. -/
def step (r : EReal) (f w : BitVec 32) : BitVec 32 :=
  Scalar.select (Ideal.cmp .oge r (thr (IntOp.addi f w))) (IntOp.addi f w) f

/-- The whole search, high bit first. -/
def field (r : EReal) : BitVec 32 :=
  step r (step r (step r (step r (step r (step r (step r (step r 0#32 128#32) 64#32) 32#32) 16#32) 8#32) 4#32) 2#32) 1#32

/-- The exponent the kernel uses: 0 for a zero or special field, 0 where the greatest magnitude is zero. -/
def fin (a : EReal) (f : BitVec 32) : BitVec 32 :=
  Scalar.select (Ideal.cmp .oeq a (Ideal.ofBits .f32 0x00000000#32)) 0#32
    (Scalar.select (IntOp.ori (IntOp.cmpi .eq f 0#32) (IntOp.cmpi .eq f 255#32)) 0#32 (IntOp.subi f 126#32))

/-- The kernel's power of two: two words half the exponent each, multiplied. -/
def ldexp (n : BitVec 32) : EReal :=
  thr (IntOp.addi (IntOp.shrsi .vector n 1#32) 127#32)
    * thr (IntOp.addi (IntOp.subi n (IntOp.shrsi .vector n 1#32)) 127#32)

/-- The greatest magnitude over 448 (as the float32 constant has it). -/
def ratio (a : EReal) : EReal := a * Ideal.ofBits .f32 0x3B124925#32

/-- The kernel's exponent. -/
def kexp (a : EReal) : BitVec 32 := fin a (field (ratio a))

/-- The reference's exponent. -/
def rexp (a : EReal) : EReal :=
  Scalar.select (Ideal.cmp .oeq a (Ideal.ofBits .f32 0x00000000#32)) (Ideal.ofBits .f32 0x00000000#32)
    (Scalar.select (IntOp.andi (Ideal.cmp .oge (ratio a) (Ideal.ofBits .f32 0x00800000#32))
        (Ideal.cmp .olt (ratio a) (Ideal.ofBits .f32 0x7F800000#32)))
      (min (Ideal.liftRound Int.floor (Ideal.div (Ideal.log (ratio a)) (Ideal.log (Ideal.ofBits .f32 0x40000000#32)))
          + Ideal.ofBits .f32 0x3F800000#32) (Ideal.ofBits .f32 0x43000000#32))
      (Ideal.ofBits .f32 0x00000000#32))

/-! ## Words -/

/-- A number below 256 shifted left by 23 is a word with that exponent field, no mantissa and no sign. -/
theorem words : ∀ b : Fin 256,
    ((IntOp.shli .vector (BitVec.ofNat 32 b) 23#32).extractLsb' 23 8).toNat = b
    ∧ ((IntOp.shli .vector (BitVec.ofNat 32 b) 23#32).extractLsb' 0 23).toNat = 0
    ∧ (IntOp.shli .vector (BitVec.ofNat 32 b) 23#32).extractLsb' 31 1 = 0#1 := by decide +kernel

/-- A float32 word with a normal exponent field and nothing else is a power of two. -/
theorem ieee_pow (x : BitVec 32) (b : ℕ) (w1 : (x.extractLsb' 23 8).toNat = b) (w2 : (x.extractLsb' 0 23).toNat = 0)
    (w3 : x.extractLsb' 31 1 = 0#1) (h1 : 1 ≤ b) (h2 : b ≤ 254) : Ideal.ieee 8 23 x = ((2 : ℝ) ^ ((b : ℤ) - 127) : ℝ) := by
  unfold Ideal.ieee
  have w3' : x.extractLsb' (8 + 23) 1 = 0#1 := w3
  rw [w1, w2, w3']
  extract_lets
  rw [if_neg (by norm_num; omega), if_neg (by omega)]
  rename_i neg ex fr bias sgn
  have hs : sgn = 1 := by simp [sgn, neg]
  have hb : bias = 127 := by norm_num [bias]
  rw [hs, hb, one_mul]
  have : ((2 ^ 23 + fr : ℕ) : ℝ) = (2 : ℝ) ^ (23 : ℤ) := by simp only [fr]; norm_num
  rw [this, ← zpow_add₀ (by norm_num)]
  congr 2
  simp only [ex]; push_cast; ring

/-- A normal field's word is the power of two. -/
theorem thr_eq (b : ℕ) (h1 : 1 ≤ b) (h2 : b ≤ 254) : thr (BitVec.ofNat 32 b) = ((2 : ℝ) ^ ((b : ℤ) - 127) : ℝ) := by
  obtain ⟨w1, w2, w3⟩ := words ⟨b, by omega⟩
  exact ieee_pow _ b w1 w2 w3 h1 h2

/-- The greatest field's word is the infinity. -/
theorem thr_255 : thr 255#32 = ⊤ := by
  have e : IntOp.shli .vector 255#32 23#32 = 0x7F800000#32 := by decide
  rw [thr, e]; simp [Ideal.ofBits, Ideal.ieee]

/-! ## The search -/

/-- Lower end of the search: the field is zero or its value is no more than `r`. -/
def Lo (r : EReal) (f : ℕ) : Prop := f = 0 ∨ thr (BitVec.ofNat 32 f) ≤ r
/-- Upper end: past the field's range or its value is more than `r`. -/
def Hi (r : EReal) (f : ℕ) : Prop := 256 ≤ f ∨ r < thr (BitVec.ofNat 32 f)

/-- One step of the bit search halves the interval that the field lies in. -/
theorem step_inv (r : EReal) (f w : ℕ) (hf : f + 2 * w ≤ 256) (lo : Lo r f) (hi : Hi r (f + 2 * w)) :
    ∃ f', step r (BitVec.ofNat 32 f) (BitVec.ofNat 32 w) = BitVec.ofNat 32 f' ∧ f' + w ≤ 256 ∧ Lo r f' ∧ Hi r (f' + w) := by
  have e : IntOp.addi (BitVec.ofNat 32 f) (BitVec.ofNat 32 w) = BitVec.ofNat 32 (f + w) := by
    simp [IntOp.addi, BitVec.ofNat_add]
  unfold step; rw [e]
  by_cases h : thr (BitVec.ofNat 32 (f + w)) ≤ r
  · refine ⟨f + w, ?_, by omega, .inr h, by rw [show f + w + w = f + 2 * w by ring]; exact hi⟩
    simp [Ideal.cmp, Scalar.select, h]
  · refine ⟨f, ?_, by omega, lo, .inr (lt_of_not_ge h)⟩
    simp [Ideal.cmp, Scalar.select, h]

/-- What the search finds. -/
theorem field_spec (r : EReal) : ∃ b, field r = BitVec.ofNat 32 b ∧ b ≤ 255 ∧ Lo r b ∧ Hi r (b + 1) := by
  obtain ⟨f1, e1, b1, l1, h1⟩ := step_inv r 0 128 (by omega) (.inl rfl) (.inl (by omega))
  obtain ⟨f2, e2, b2, l2, h2⟩ := step_inv r f1 64 (by omega) l1 h1
  obtain ⟨f3, e3, b3, l3, h3⟩ := step_inv r f2 32 (by omega) l2 h2
  obtain ⟨f4, e4, b4, l4, h4⟩ := step_inv r f3 16 (by omega) l3 h3
  obtain ⟨f5, e5, b5, l5, h5⟩ := step_inv r f4 8 (by omega) l4 h4
  obtain ⟨f6, e6, b6, l6, h6⟩ := step_inv r f5 4 (by omega) l5 h5
  obtain ⟨f7, e7, b7, l7, h7⟩ := step_inv r f6 2 (by omega) l6 h6
  obtain ⟨f8, e8, b8, l8, h8⟩ := step_inv r f7 1 (by omega) l7 h7
  refine ⟨f8, ?_, by omega, l8, h8⟩
  unfold field
  rw [e1, e2, e3, e4, e5, e6, e7, e8]

/-! ## The two exponents agree -/

/-- The float that a step compares with, from its word. -/
theorem thr_word (b w : BitVec 32) (e : IntOp.shli .vector b 23#32 = w) : Ideal.ofBits .f32 w = thr b := by rw [← e]; rfl
/-- The least normal float. -/
theorem ofBits_tiny : Ideal.ofBits .f32 0x00800000#32 = ((2 : ℝ) ^ (-126 : ℤ) : ℝ) := by
  rw [thr_word 1#32 _ (by decide)]; exact (thr_eq 1 le_rfl (by omega)).trans (by norm_num)
/-- The float infinity. -/
theorem ofBits_inf : Ideal.ofBits .f32 0x7F800000#32 = ⊤ := by
  rw [thr_word 255#32 _ (by decide)]; exact thr_255
/-- The float 1. -/
theorem ofBits_one : Ideal.ofBits .f32 0x3F800000#32 = ((1 : ℝ) : EReal) := by
  rw [thr_word 127#32 _ (by decide)]; exact (thr_eq 127 (by omega) (by omega)).trans (by norm_num)
/-- The float 2. -/
theorem ofBits_two : Ideal.ofBits .f32 0x40000000#32 = ((2 : ℝ) : EReal) := by
  rw [thr_word 128#32 _ (by decide)]; exact (thr_eq 128 (by omega) (by omega)).trans (by norm_num)
/-- The float 128. -/
theorem ofBits_128 : Ideal.ofBits .f32 0x43000000#32 = ((128 : ℝ) : EReal) := by
  rw [thr_word 134#32 _ (by decide)]; exact (thr_eq 134 (by omega) (by omega)).trans (by norm_num)
/-- The float 0. -/
theorem ofBits_zero : Ideal.ofBits .f32 0x00000000#32 = 0 := Ideal.ofBits_zero_f32

/-- The floor of the base-two logarithm of a number between two powers of two. -/
theorem floor_log {x : ℝ} {k : ℤ} (h1 : (2 : ℝ) ^ k ≤ x) (h2 : x < (2 : ℝ) ^ (k + 1)) : ⌊Real.log x / Real.log 2⌋ = k := by
  have hx : 0 < x := lt_of_lt_of_le (by positivity) h1
  have hl : 0 < Real.log 2 := Real.log_pos (by norm_num)
  rw [Int.floor_eq_iff]
  constructor
  · rw [le_div_iff₀ hl, ← Real.log_zpow]; exact Real.log_le_log (by positivity) h1
  · rw [div_lt_iff₀ hl]
    have := Real.log_lt_log hx h2
    rw [Real.log_zpow] at this; push_cast at this; exact this

/-- The same from below only. -/
theorem le_floor_log {x : ℝ} {k : ℤ} (h1 : (2 : ℝ) ^ k ≤ x) : k ≤ ⌊Real.log x / Real.log 2⌋ := by
  have hx : 0 < x := lt_of_lt_of_le (by positivity) h1
  have hl : 0 < Real.log 2 := Real.log_pos (by norm_num)
  rw [Int.le_floor, le_div_iff₀ hl, ← Real.log_zpow]; exact Real.log_le_log (by positivity) h1

/-- The reference's quotient of logarithms, floored, at a positive real. -/
theorem floor_quot {x : ℝ} (hx : 0 < x) :
    Ideal.liftRound Int.floor (Ideal.div (Ideal.log (x : EReal)) (Ideal.log (Ideal.ofBits .f32 0x40000000#32)))
      = ((⌊Real.log x / Real.log 2⌋ : ℝ) : EReal) := by
  have hl : 0 < Real.log 2 := Real.log_pos (by norm_num)
  rw [ofBits_two]
  have e1 : Ideal.log ((x : ℝ) : EReal) = ((Real.log x : ℝ) : EReal) := by
    show (if x ≤ 0 then ⊥ else (Real.log x : EReal)) = _; rw [if_neg (not_le.mpr hx)]
  have e2 : Ideal.log ((2 : ℝ) : EReal) = ((Real.log 2 : ℝ) : EReal) := by
    show (if (2 : ℝ) ≤ 0 then ⊥ else (Real.log 2 : EReal)) = _; rw [if_neg (by norm_num)]
  rw [e1, e2, Ideal.div, if_neg (by simpa using hl.ne'), ← EReal.coe_inv, ← EReal.coe_mul, ← div_eq_mul_inv]
  rfl

/-- Both exponents are one integer between -125 and 128. -/
theorem exp_agree (a : EReal) : ∃ n : ℕ, n ≤ 256 ∧ kexp a = BitVec.ofInt 32 ((n : ℤ) - 128) ∧ rexp a = ((((n : ℤ) - 128 : ℤ) : ℝ) : EReal) := by
  by_cases ha : a = 0
  · refine ⟨128, by omega, ?_, ?_⟩
    · simp [kexp, fin, ofBits_zero, Ideal.cmp, Scalar.select, ha]
    · simp [rexp, ofBits_zero, Ideal.cmp, Scalar.select, ha]
  have hk : ∀ f, fin a f = Scalar.select (IntOp.ori (IntOp.cmpi .eq f 0#32) (IntOp.cmpi .eq f 255#32)) 0#32 (IntOp.subi f 126#32) := by
    intro f; simp only [fin, ofBits_zero]; simp [Ideal.cmp, Scalar.select, ha]
  have hr : ∀ x y : EReal, Scalar.select (Ideal.cmp .oeq a (Ideal.ofBits .f32 0x00000000#32)) x y = y := by
    intro x y; simp [ofBits_zero, Ideal.cmp, Scalar.select, ha]
  unfold kexp rexp; rw [hk, hr]
  generalize ratio a = r
  obtain ⟨b, eb, hb, lo, hi⟩ := field_spec r
  rw [eb, ofBits_tiny, ofBits_inf, ofBits_one, ofBits_128, ofBits_zero]
  by_cases hb0 : b = 0
  · subst hb0
    have hlt : r < ((2 : ℝ) ^ (-126 : ℤ) : ℝ) := by
      rcases hi with h | h
      · omega
      · have := thr_eq 1 le_rfl (by omega); rw [this] at h; simpa using h
    refine ⟨128, by omega, by decide, ?_⟩
    have : ¬ (((2 : ℝ) ^ (-126 : ℤ) : ℝ) : EReal) ≤ r := not_le.mpr hlt
    simp only [Ideal.cmp, this, decide_false]
    simp [Scalar.select, IntOp.andi]
  by_cases hb1 : b = 255
  · subst hb1
    have htop : r = ⊤ := by
      rcases lo with h | h
      · omega
      · rw [show BitVec.ofNat 32 255 = 255#32 from rfl, thr_255] at h; exact top_le_iff.mp h
    refine ⟨128, by omega, by decide, ?_⟩
    subst htop
    simp [Ideal.cmp, Scalar.select, IntOp.andi]
  have lo' : (((2 : ℝ) ^ ((b : ℤ) - 127) : ℝ) : EReal) ≤ r := by
    rcases lo with h | h
    · exact absurd h hb0
    · rwa [thr_eq b (by omega) (by omega)] at h
  have hi' : r < thr (BitVec.ofNat 32 (b + 1)) := by
    rcases hi with h | h
    · omega
    · exact h
  have hrt : r < ⊤ := lt_of_lt_of_le hi' le_top
  have hrb : r ≠ ⊥ := by rintro rfl; simp at lo'
  lift r to ℝ using ⟨hrt.ne, hrb⟩
  have lo'' : (2 : ℝ) ^ ((b : ℤ) - 127) ≤ r := by exact_mod_cast lo'
  have hpos : 0 < r := lt_of_lt_of_le (by positivity) lo''
  have htiny : (2 : ℝ) ^ (-126 : ℤ) ≤ r := le_trans (zpow_le_zpow_right₀ (by norm_num) (by omega)) lo''
  refine ⟨b + 2, by omega, ?_, ?_⟩
  · have : ∀ b : Fin 255, b.val ≠ 0 →
        Scalar.select (IntOp.ori (IntOp.cmpi .eq (BitVec.ofNat 32 b) 0#32) (IntOp.cmpi .eq (BitVec.ofNat 32 b) 255#32)) 0#32
          (IntOp.subi (BitVec.ofNat 32 b) 126#32) = BitVec.ofInt 32 (((b.val + 2 : ℕ) : ℤ) - 128) := by decide +kernel
    exact this ⟨b, by omega⟩ hb0
  · rw [floor_quot hpos]
    have c1 : (((2 : ℝ) ^ (-126 : ℤ) : ℝ) : EReal) ≤ (r : EReal) := by exact_mod_cast htiny
    have c2 : (r : EReal) < ⊤ := hrt
    simp only [Ideal.cmp, c1, c2, decide_true]
    rw [show Scalar.select (IntOp.andi (BitVec.ofBool true) (BitVec.ofBool true)) = fun (x y : EReal) => x from by
      funext x y; simp [Scalar.select, IntOp.andi]]
    show min _ _ = _
    by_cases h254 : b = 254
    · subst h254
      have := le_floor_log lo''
      rw [min_eq_right]
      · norm_num
      · rw [← EReal.coe_add]; norm_num at this ⊢
        have h2 : (127 : ℝ) ≤ (⌊Real.log r / Real.log 2⌋ : ℝ) := by exact_mod_cast this
        exact_mod_cast (by linarith : (128 : ℝ) ≤ (⌊Real.log r / Real.log 2⌋ : ℝ) + 1)
    · rw [thr_eq (b + 1) (by omega) (by omega)] at hi'
      have hi'' : r < (2 : ℝ) ^ ((b : ℤ) - 127 + 1) := by
        have h : r < (2 : ℝ) ^ (((b + 1 : ℕ) : ℤ) - 127) := by exact_mod_cast hi'
        rwa [show (((b + 1 : ℕ) : ℤ) - 127) = (b : ℤ) - 127 + 1 by push_cast; ring] at h
      rw [floor_log lo'' hi'', ← EReal.coe_add, min_eq_left]
      · congr 1; push_cast; ring
      · have : (b : ℝ) ≤ 253 := by exact_mod_cast (by omega : b ≤ 253)
        have : ((((b : ℤ) - 127 : ℤ) : ℝ) + 1) ≤ 128 := by push_cast; linarith
        exact_mod_cast this

/-! ## The powers agree -/

/-- The exponent fields of the two factors that the kernel makes a power of two of, for exponents from -128 to 128. -/
theorem halves : ∀ n : Fin 257,
    IntOp.addi (IntOp.shrsi .vector (BitVec.ofInt 32 ((n : ℤ) - 128)) 1#32) 127#32 = BitVec.ofNat 32 (n / 2 + 63)
    ∧ IntOp.addi (IntOp.subi (BitVec.ofInt 32 ((n : ℤ) - 128)) (IntOp.shrsi .vector (BitVec.ofInt 32 ((n : ℤ) - 128)) 1#32)) 127#32
        = BitVec.ofNat 32 (n - n / 2 + 63) := by decide +kernel

/-- The kernel's two factors multiply to the power of two. -/
theorem ldexp_eq (n : ℕ) (h : n ≤ 256) : ldexp (BitVec.ofInt 32 ((n : ℤ) - 128)) = ((2 : ℝ) ^ ((n : ℤ) - 128) : ℝ) := by
  obtain ⟨e1, e2⟩ := halves ⟨n, by omega⟩
  simp only at e1 e2
  rw [ldexp, e1, e2, thr_eq _ (by omega) (by omega), thr_eq _ (by omega) (by omega), ← EReal.coe_mul, ← zpow_add₀ (by norm_num)]
  congr 2
  have : n / 2 ≤ n := Nat.div_le_self _ _
  push_cast [Nat.cast_sub this]; ring

/-- The reference's power of two. -/
theorem exp2_eq (e : ℤ) : Ideal.exp2 (((e : ℤ) : ℝ) : EReal) = ((2 : ℝ) ^ e : ℝ) := by
  show ((Real.rpow 2 (e : ℝ) : ℝ) : EReal) = _
  rw [Real.rpow_eq_pow, Real.rpow_intCast]

/-- The row scale: the kernel's is the reference's. -/
theorem scale_agree (a : EReal) : ldexp (kexp a) = Ideal.exp2 (rexp a) := by
  obtain ⟨n, hn, ek, er⟩ := exp_agree a
  rw [ek, er, ldexp_eq n hn, exp2_eq]

/-- The reciprocal scale: the kernel's is the reference's. -/
theorem inv_agree (a : EReal) : ldexp (IntOp.subi 0#32 (kexp a)) = Ideal.exp2 (Ideal.ofBits .f32 0x00000000#32 - rexp a) := by
  obtain ⟨n, hn, ek, er⟩ := exp_agree a
  have e : IntOp.subi 0#32 (BitVec.ofInt 32 ((n : ℤ) - 128)) = BitVec.ofInt 32 (((256 - n : ℕ) : ℤ) - 128) := by
    have : ∀ n : Fin 257, IntOp.subi 0#32 (BitVec.ofInt 32 ((n : ℤ) - 128)) = BitVec.ofInt 32 (((256 - n.val : ℕ) : ℤ) - 128) := by
      decide +kernel
    exact this ⟨n, by omega⟩
  rw [ek, er, e, ldexp_eq _ (by omega), ofBits_zero, zero_sub, ← EReal.coe_neg, ← Int.cast_neg, exp2_eq]
  congr 2
  push_cast [Nat.cast_sub hn]; ring

end Cert.Quant

end
-- ==== Proof.Vals.lean ====
module

public import proofs.«01_k».proof.Proof.Quant

@[expose] public section

noncomputable section

/-! # The layer's results over the extended reals, as functions of the arguments' elements -/

namespace Cert.Vals

open Cert.Quant Idealize.ShloMosaic

/-- The greatest magnitude of a row. -/
def amax {n : ℕ} (f : Fin n → EReal) : EReal :=
  Finset.univ.fold max (Ideal.ofBits .f32 0xFF800000#32) fun k => max (f k) (-(f k))

/-- A row's scale, from its greatest magnitude. -/
def scale (a : EReal) : EReal := ldexp (kexp a)

/-- A row's code at an element `v`, from the row's greatest magnitude. -/
def code (v a : EReal) : EReal :=
  min (Ideal.ofBits .f32 0x43E00000#32) (max (Ideal.ofBits .f32 0xC3E00000#32) (v * ldexp (IntOp.subi 0#32 (kexp a))))

/-- One hidden element from a row's codes and scale, a gate column and an up column with their scales. -/
def hval (c : Fin 4096 → EReal) (s : EReal) (wg wu : Fin 4096 → EReal) (sg su : EReal) : EReal :=
  (∑ k, c k * wg k) * s * sg * Ideal.logistic ((∑ k, c k * wg k) * s * sg) * ((∑ k, c k * wu k) * s * su)

/-- The gate column of hidden column `q`. -/
def gcol (q : Fin 11008) : Fin 22016 := ⟨q, by omega⟩

/-- The up column of hidden column `q`. -/
def ucol (q : Fin 11008) : Fin 22016 := ⟨11008 + q, by omega⟩

/-- A hidden row from a row of `x`, the weights and their scales. -/
def hrow (x : Fin 4096 → EReal) (w : Fin 4096 → Fin 22016 → EReal) (s : Fin 22016 → EReal) (q : Fin 11008) : EReal :=
  hval (fun k => code (x k) (amax x)) (scale (amax x)) (fun k => w k (gcol q)) (fun k => w k (ucol q)) (s (gcol q)) (s (ucol q))

end Cert.Vals

end
-- ==== Proof.PayK.lean ====
module

public import proofs.«01_k».proof.Proof.HandKernelIdeal.Spec
public import proofs.«01_k».proof.Proof.Vals
public import Idealize.ShloMosaic.Lib.Pointwise

@[expose] public section

set_option maxRecDepth 16384

noncomputable section

/-! # The kernel's stored values, element by element, over the extended reals -/

namespace Cert.KernelIdeal.Hand

open Cert.KernelIdeal Cert.KernelIdeal.Gen Cert.Quant Cert.Vals
open Idealize.ShloMosaic

/-- One step of the bit search, on a vector. -/
def vstep {s : Shape} (r : FVec Ideal s .f32) (f : IVec s 32) (w : BitVec 32) : IVec s 32 :=
  select (cmpf .oge r (bitcastToFloat .f32 (shli (addi f (broadcast s w)) (broadcast s 23#32)))) (addi f (broadcast s w)) f

/-- The exponent from the field, on a vector. -/
def vfin {s : Shape} (a : FVec Ideal s .f32) (f : IVec s 32) : IVec s 32 :=
  select (cmpf .oeq a (broadcast s (Scalar.ofBits .f32 0x00000000#32))) (broadcast s 0#32)
    (select (ori (cmpi .eq f (broadcast s 0#32)) (cmpi .eq f (broadcast s 255#32))) (broadcast s 0#32) (subi f (broadcast s 126#32)))

/-- The power of two, on a vector. -/
def vldexp {s : Shape} (n : IVec s 32) : FVec Ideal s .f32 :=
  mulf (bitcastToFloat .f32 (shli (addi (shrsi n (broadcast s 1#32)) (broadcast s 127#32)) (broadcast s 23#32)))
    (bitcastToFloat .f32 (shli (addi (subi n (shrsi n (broadcast s 1#32))) (broadcast s 127#32)) (broadcast s 23#32)))

/-- One step of the bit search, at an element. -/
theorem vstep_apply {s : Shape} (r : FVec Ideal s .f32) (f : IVec s 32) (w : BitVec 32) (i : s.Idx) :
    vstep r f w i = step (r i) (f i) w := rfl
/-- The end of the bit search, at an element. -/
theorem vfin_apply {s : Shape} (a : FVec Ideal s .f32) (f : IVec s 32) (i : s.Idx) : vfin a f i = fin (a i) (f i) := rfl
/-- The power of two of a vector, at an element. -/
theorem vldexp_apply {s : Shape} (n : IVec s 32) (i : s.Idx) : vldexp n i = ldexp (n i) := rfl

/-- The whole exponent, on a vector. -/
def vexp {s : Shape} (a : FVec Ideal s .f32) (r : FVec Ideal s .f32) : IVec s 32 :=
  vfin a (vstep r (vstep r (vstep r (vstep r (vstep r (vstep r (vstep r (vstep r (broadcast s 0#32) 128#32) 64#32) 32#32) 16#32) 8#32) 4#32) 2#32) 1#32)

/-- The exponent of a vector, at an element. -/
theorem vexp_apply {s : Shape} (a r : FVec Ideal s .f32) (h : ∀ i, r i = ratio (a i)) (i : s.Idx) : vexp a r i = kexp (a i) := by
  unfold vexp kexp field; simp only [vfin_apply, vstep_apply, h]; rfl

/-- The bit search for a row block of `x`, but for its last steps. -/
theorem pay6_eq (x : Vec Ideal S512x4096 .bf16) : k0_pay6 x =
    vstep (k0_pay5 x) (vstep (k0_pay5 x) (vstep (k0_pay5 x) (vstep (k0_pay5 x) (vstep (k0_pay5 x) (broadcast S512x1 0#32) 128#32) 64#32) 32#32) 16#32) 8#32 := by
  unfold k0_pay6; generalize k0_pay5 x = r; rfl

/-- The bit search for the running maximum, but for its last steps. -/
theorem pay12_eq (a : Vec Ideal S512x1 .f32) : k0_pay12 a =
    vstep (k0_pay11 a) (vstep (k0_pay11 a) (vstep (k0_pay11 a) (vstep (k0_pay11 a) (vstep (k0_pay11 a) (broadcast S512x1 0#32) 128#32) 64#32) 32#32) 16#32) 8#32 := by
  unfold k0_pay12; generalize k0_pay11 a = r; rfl

/-- The rest of the search for `x`, from its first steps. -/
theorem pay7_eq (a r : FVec Ideal S512x1 .f32) (f : IVec S512x1 32) :
    k0_pay7 a r f 4#32 = vfin a (vstep r (vstep r (vstep r f 4#32) 2#32) 1#32) := by
  rfl

/-- The exponents of the hidden rows. -/
theorem pay15_eq (a : Vec Ideal S512x1 .f32) :
    k0_pay15 a (k0_pay11 a) (k0_pay12 a) (k0_pay13 a) (k0_pay14 a)
      = vfin a (vstep (k0_pay11 a) (vstep (k0_pay11 a) (vstep (k0_pay11 a) (k0_pay12 a) 4#32) 2#32) 1#32) := by
  unfold k0_pay14 k0_pay13; generalize k0_pay12 a = f; generalize k0_pay11 a = r; rfl

/-- The row maxima of a block of `x`. -/
theorem pay4_apply (x : Vec Ideal S512x4096 .bf16) (r : Fin 512) (l : Fin 1) :
    k0_pay4 x (ix2 r l) = amax fun k : Fin 4096 => x (ix2 r k) := by
  pointwise [k0_pay4, k0_pay3]
  rfl

/-- The exponent of a row of `x`. -/
theorem pay7_apply (x : Vec Ideal S512x4096 .bf16) (i : S512x1.Idx) :
    k0_pay7 (k0_pay4 x) (k0_pay5 x) (k0_pay6 x) 4#32 i = kexp (k0_pay4 x i) := by
  rw [pay7_eq, pay6_eq]
  exact vexp_apply (k0_pay4 x) (k0_pay5 x) (fun _ => rfl) i

/-- The exponent of a hidden row. -/
theorem pay15_apply (a : Vec Ideal S512x1 .f32) (i : S512x1.Idx) :
    k0_pay15 a (k0_pay11 a) (k0_pay12 a) (k0_pay13 a) (k0_pay14 a) i = kexp (a i) := by
  rw [pay15_eq, pay12_eq]
  exact vexp_apply a (k0_pay11 a) (fun _ => rfl) i

/-- The stored scale of a row of `x`. -/
theorem QS_apply (x : Vec Ideal S512x4096 .bf16) (i : S512x1.Idx) : QS x i = scale (k0_pay4 x i) := by
  unfold scale
  rw [← pay7_apply]
  unfold QS k0_pay18 k0_pay9 k0_pay10 k0_pay8
  generalize k0_pay7 (k0_pay4 x) (k0_pay5 x) (k0_pay6 x) 4#32 = n
  exact vldexp_apply n i

/-- The codes of `x`, from the exponents. -/
theorem pay19_eq (v : FVec Ideal S512x4096 .f32) (n : IVec S512x1 32) :
    k0_pay19 v n = truncf .fp8e4m3 (minimumf (broadcast S512x4096 (Scalar.ofBits .f32 0x43E00000#32)) (maximumf (broadcast S512x4096 (Scalar.ofBits .f32 0xC3E00000#32))
      (mulf v (broadcastTo S512x4096 (vldexp (subi (broadcast S512x1 0#32) n)) broadcasts_S512x1_S512x4096)))) bitsLt_fp8e4m3_f32 := by
  rfl

/-- The codes of the hidden rows, from the exponents. -/
theorem pay2_eq (v : FVec Ideal S512x11008 .f32) (n : IVec S512x1 32) :
    k0_pay2 n k0_pay17 v = truncf .fp8e4m3 (minimumf (broadcast S512x11008 (Scalar.ofBits .f32 0x43E00000#32)) (maximumf (broadcast S512x11008 (Scalar.ofBits .f32 0xC3E00000#32))
      (mulf v (broadcastTo S512x11008 (vldexp (subi (broadcast S512x1 0#32) n)) broadcasts_S512x1_S512x11008)))) bitsLt_fp8e4m3_f32 := by
  rfl

/-- The stored code of `x`, at an element. -/
theorem QC_apply (x : Vec Ideal S512x4096 .bf16) (r : Fin 512) (k : Fin 4096) :
    QC x (ix2 r k) = code (x (ix2 r k)) (k0_pay4 x (ix2 r 0)) := by
  unfold QC code
  rw [pay19_eq, ← pay7_apply x (ix2 r 0)]
  generalize k0_pay7 (k0_pay4 x) (k0_pay5 x) (k0_pay6 x) 4#32 = n
  have e := vldexp_apply (subi (broadcast S512x1 0#32) n) (ix2 r 0)
  change _ = ldexp (IntOp.subi 0#32 (n (ix2 r 0))) at e
  rw [← e]
  generalize vldexp (subi (broadcast S512x1 0#32) n) = m
  pointwise [k0_pay3]

/-- The stored scale of a hidden row. -/
theorem HS_apply (a : Vec Ideal S512x1 .f32) (i : S512x1.Idx) : HS a i = scale (a i) := by
  unfold scale
  rw [← pay15_apply]
  unfold HS k0_pay16
  generalize k0_pay15 a (k0_pay11 a) (k0_pay12 a) (k0_pay13 a) (k0_pay14 a) = n
  exact vldexp_apply n i

/-- The stored code of a hidden row, at an element. -/
theorem HC_apply (a : Vec Ideal S512x1 .f32) (h : Vec Ideal S512x11008 .f32) (r : Fin 512) (k : Fin 11008) :
    HC a h (ix2 r k) = code (h (ix2 r k)) (a (ix2 r 0)) := by
  unfold HC code
  rw [pay2_eq, ← pay15_apply a (ix2 r 0)]
  generalize k0_pay15 a (k0_pay11 a) (k0_pay12 a) (k0_pay13 a) (k0_pay14 a) = n
  have e := vldexp_apply (subi (broadcast S512x1 0#32) n) (ix2 r 0)
  change _ = ldexp (IntOp.subi 0#32 (n (ix2 r 0))) at e
  rw [← e]
  generalize vldexp (subi (broadcast S512x1 0#32) n) = m
  pointwise

end Cert.KernelIdeal.Hand

end
-- ==== Proof.PayT.lean ====
module

public import proofs.«01_k».proof.Proof.HandKernelIdeal.Spec
public import proofs.«01_k».proof.Proof.Vals
public import Idealize.ShloMosaic.Lib.Pointwise

@[expose] public section

set_option maxRecDepth 16384

noncomputable section

/-! # The kernel's stored values, tile by tile, over the extended reals -/

namespace Cert.KernelIdeal.Hand

open Cert.KernelIdeal Cert.KernelIdeal.Gen Cert.Quant Cert.Vals
open Idealize.ShloMosaic

/-- A tile of hidden values, at an element. -/
theorem TL_apply (cx : Vec Ideal S512x4096 .fp8e4m3) (sx : Vec Ideal S512x1 .f32) (wg wu : Vec Ideal S4096x256 .fp8e4m3)
    (sg su : Vec Ideal S1x256 .f32) (r : Fin 512) (q : Fin 256) :
    TL cx sx wg wu sg su (ix2 r q)
      = hval (fun k => cx (ix2 r k)) (sx (ix2 r 0)) (fun k => wg (ix2 k q)) (fun k => wu (ix2 k q)) (sg (ix2 0 q)) (su (ix2 0 q)) := by
  pointwise [TL, k0_pay22, k0_pay21]
  unfold hval
  rfl

/-- One step of the running maximum, at a row. -/
theorem AM_apply (a : Vec Ideal S512x1 .f32) (cx : Vec Ideal S512x4096 .fp8e4m3) (sx : Vec Ideal S512x1 .f32) (wg wu : Vec Ideal S4096x256 .fp8e4m3)
    (sg su : Vec Ideal S1x256 .f32) (r : Fin 512) (l : Fin 1) :
    AM a cx sx wg wu sg su (ix2 r l)
      = max (a (ix2 r l)) (amax fun q : Fin 256 => TL cx sx wg wu sg su (ix2 r q)) := by
  have e : TL cx sx wg wu sg su = k0_pay21 cx sx wg sg wu su := by
    unfold TL k0_pay22; exact shapeCast_id _ _
  rw [e]; unfold AM k0_pay1 k0_pay23
  generalize k0_pay21 cx sx wg sg wu su = h
  pointwise
  rfl

end Cert.KernelIdeal.Hand

end
-- ==== Proof.Results.lean ====
module

public import proofs.«01_k».proof.Proof.Vals

@[expose] public section

noncomputable section

/-! # The four results as functions of the argument arrays, and the greatest magnitude as a least bound -/

namespace Cert.Vals

open Cert.Quant Idealize.ShloMosaic

/-- Minus infinity is the least extended real. -/
theorem ofBits_ninf : Ideal.ofBits .f32 0xFF800000#32 = (⊥ : EReal) := by
  simp [Ideal.ofBits, Ideal.ieee]

/-- A number's magnitude is not negative. -/
theorem mag_nonneg (x : EReal) : 0 ≤ max x (-x) := by
  rcases le_total 0 x with h | h
  · exact le_max_of_le_left h
  · exact le_max_of_le_right (by rw [← neg_zero]; exact EReal.neg_le_neg_iff.mpr h)

/-- A bound of the greatest magnitude is a bound of every magnitude. -/
theorem amax_le {n : ℕ} (f : Fin n → EReal) (b : EReal) : amax f ≤ b ↔ ∀ k, max (f k) (-(f k)) ≤ b := by
  unfold amax
  rw [Finset.fold_max_le, ofBits_ninf]
  exact ⟨fun h k => h.2 k (Finset.mem_univ k), fun h => ⟨bot_le, fun k _ => h k⟩⟩

variable (X : Fin 18432 → Fin 4096 → EReal) (W : Fin 4096 → Fin 22016 → EReal) (S : Fin 22016 → EReal)

/-- The scale of row `R` of `x`. -/
def xScale (R : Fin 18432) : EReal := scale (amax (X R))
/-- The code of `x` at row `R`, column `k`. -/
def xCode (R : Fin 18432) (k : Fin 4096) : EReal := code (X R k) (amax (X R))
/-- The scale of row `R` of the hidden array. -/
def hScale (R : Fin 18432) : EReal := scale (amax (hrow (X R) W S))
/-- The code of the hidden array at row `R`, column `q`. -/
def hCode (R : Fin 18432) (q : Fin 11008) : EReal := code (hrow (X R) W S q) (amax (hrow (X R) W S))

end Cert.Vals

end
-- ==== Proof.Blocks.lean ====
module

public import proofs.«01_k».proof.Proof.PayK
public import proofs.«01_k».proof.Proof.PayT
public import proofs.«01_k».proof.Proof.Results
public import proofs.«01_k».proof.Proof.HandKernelIdeal.Points
public import Idealize.ShloMosaic.Lib.Pipeline.ValueKit
public import Idealize.ShloMosaic.Lib.Pointwise

@[expose] public section

set_option maxRecDepth 16384

noncomputable section

/-! # The kernel's blocks as parts of its argument arrays -/

namespace Cert.KernelIdeal.Hand

open Cert.KernelIdeal Cert.KernelIdeal.Gen Cert.Quant Cert.Vals
open Idealize.ShloMosaic Idealize.ShloMosaic.TcCoe

/-- The first grid coordinate of point `t`: its row block. -/
theorem co0 (t : Fin cfg0.N) : (grid0.coords t 0).val = t.val / 43 := by
  have ht : t.val < 1548 := Nat.lt_of_lt_of_eq t.isLt N_0
  have e : (grid0.coords t 0).val = t.val / 43 % 36 := Pipeline.Grid.coords_val t 0 (by decide) rfl
  omega

/-- The second grid coordinate of point `t`: its column step. -/
theorem co1 (t : Fin cfg0.N) : (grid0.coords t 1).val = t.val % 43 := by
  have e : (grid0.coords t 1).val = t.val / 1 % 43 := Pipeline.Grid.coords_val t 1 (by decide) rfl
  omega

/-- The block of `x` at point `t`. -/
theorem idx0 (t : Fin cfg0.N) : win0_0.index t = ![t.val / 43, 0] := by
  have ht : t.val < 1548 := Nat.lt_of_lt_of_eq t.isLt N_0
  show cc0_transform_0 (grid0.coords t) = _
  simp only [cc0_transform_0, co0]
  congr 1
  simp [BitVec.toNat_ofNat]
  omega
/-- The gate block of the weights at point `t`. -/
theorem idx1 (t : Fin cfg0.N) : win0_1.index t = ![0, t.val % 43] := by
  show cc0_transform_1 (grid0.coords t) = _
  simp only [cc0_transform_1, co1]
  congr 2
  simp [BitVec.toNat_ofNat]
  omega
/-- The up block of the weights at point `t`. -/
theorem idx2 (t : Fin cfg0.N) : win0_2.index t = ![0, t.val % 43 + 43] := by
  show cc0_transform_2 (grid0.coords t) = _
  simp only [cc0_transform_2, co1, Scalar.addi]
  congr 2
  simp [IntOp.addi, BitVec.toNat_add, BitVec.toNat_ofNat]
  omega
/-- The gate block of the scales at point `t`. -/
theorem idx3 (t : Fin cfg0.N) : win0_3.index t = ![0, t.val % 43] := by
  show cc0_transform_3 (grid0.coords t) = _
  simp only [cc0_transform_3, co1]
  congr 2
  simp [BitVec.toNat_ofNat]
  omega
/-- The up block of the scales at point `t`. -/
theorem idx4 (t : Fin cfg0.N) : win0_4.index t = ![0, t.val % 43 + 43] := by
  show cc0_transform_4 (grid0.coords t) = _
  simp only [cc0_transform_4, co1, Scalar.addi]
  congr 2
  simp [IntOp.addi, BitVec.toNat_add, BitVec.toNat_ofNat]
  omega

variable (m : (ℓ : Loc nD τ sig) → Buf (Elt Ideal) ℓ)

/-- The kernel's `x`, row by row. -/
def KX (c : Dev nD) (R : Fin 18432) (k : Fin 4096) : EReal := (V m c main_v0 : Vec Ideal S18432x4096 .bf16) (ix2 R k)
/-- The kernel's weights. -/
def KW (c : Dev nD) (k : Fin 4096) (q : Fin 22016) : EReal := (V m c main_arg1 : Vec Ideal S4096x22016 .fp8e4m3) (ix2 k q)
/-- The kernel's scales, as the gate blocks read them. -/
def KS (c : Dev nD) (q : Fin 22016) : EReal := (V m c main_v1 : Vec Ideal S1x22016 .f32) (ix2 0 q)
/-- The kernel's scales, as the up blocks read them. -/
def KU (c : Dev nD) (q : Fin 22016) : EReal := (V m c main_v2 : Vec Ideal S1x22016 .f32) (ix2 0 q)

/-- The two readings of the scales are one. -/
theorem KU_eq (c : Dev nD) : KU m c = KS m c := by
  funext q
  unfold KU KS
  rfl

/-- The block of `x` at point `t` is the part of the array at its row block or column step. -/
theorem blk0 (c : Dev nD) (t : Fin cfg0.N) (r : Fin 512) (k : Fin 4096) (R : Fin 18432) (hR : R.val = 512 * (t.val / 43) + r.val) :
    (iblk m c 0 t : Vec Ideal S512x4096 .bf16) (ix2 r k) = KX m c R k := by
  blk_ext [iblk, KX, idx0 t]

/-- The block of the gate weights at point `t` is the part of the array at its row block or column step. -/
theorem blk1 (c : Dev nD) (t : Fin cfg0.N) (k : Fin 4096) (q : Fin 256) (Q : Fin 11008) (hQ : Q.val = 256 * (t.val % 43) + q.val) :
    (iblk m c 1 t : Vec Ideal S4096x256 .fp8e4m3) (ix2 k q) = KW m c k (gcol Q) := by
  blk_ext [iblk, KW, gcol, idx1 t]

/-- The block of the up weights at point `t` is the part of the array at its row block or column step. -/
theorem blk2 (c : Dev nD) (t : Fin cfg0.N) (k : Fin 4096) (q : Fin 256) (Q : Fin 11008) (hQ : Q.val = 256 * (t.val % 43) + q.val) :
    (iblk m c 2 t : Vec Ideal S4096x256 .fp8e4m3) (ix2 k q) = KW m c k (ucol Q) := by
  blk_ext [iblk, KW, ucol, idx2 t]

/-- The block of the gate scales at point `t` is the part of the array at its row block or column step. -/
theorem blk3 (c : Dev nD) (t : Fin cfg0.N) (q : Fin 256) (Q : Fin 11008) (hQ : Q.val = 256 * (t.val % 43) + q.val) :
    (iblk m c 3 t : Vec Ideal S1x256 .f32) (ix2 0 q) = KS m c (gcol Q) := by
  blk_ext [iblk, KS, gcol, idx3 t]

/-- The block of the up scales at point `t` is the part of the array at its row block or column step. -/
theorem blk4 (c : Dev nD) (t : Fin cfg0.N) (q : Fin 256) (Q : Fin 11008) (hQ : Q.val = 256 * (t.val % 43) + q.val) :
    (iblk m c 4 t : Vec Ideal S1x256 .f32) (ix2 0 q) = KS m c (ucol Q) := by
  rw [← KU_eq]
  blk_ext [iblk, KU, ucol, idx4 t]

end Cert.KernelIdeal.Hand

end
-- ==== Proof.Rows.lean ====
module

public import proofs.«01_k».proof.Proof.Blocks

@[expose] public section

set_option maxRecDepth 16384

noncomputable section

/-! # A row block's codes, scales, hidden columns and running maximum, element by element -/

namespace Cert.KernelIdeal.Hand

open Cert.KernelIdeal Cert.KernelIdeal.Gen Cert.Quant Cert.Vals
open Idealize.ShloMosaic Idealize.ShloMosaic.TcCoe

variable (m : (ℓ : Loc nD τ sig) → Buf (Elt Ideal) ℓ)

/-- Point `43 i + j` as a number. -/
theorem pt_at (i j : ℕ) (hi : i < 36) (hj : j < 43) : (pt (43 * i + j)).val = 43 * i + j :=
  Nat.mod_eq_of_lt (by omega)

/-- The greatest magnitudes of a row block of `x`. -/
theorem xmax_apply (c : Dev nD) (i : ℕ) (hi : i < 36) (r : Fin 512) (l : Fin 1) (R : Fin 18432) (hR : R.val = 512 * i + r.val) :
    k0_pay4 (iblk m c 0 (pt (43 * i)) : Vec Ideal S512x4096 .bf16) (ix2 r l) = amax (KX m c R) := by
  have hp : (pt (43 * i)).val = 43 * i := pt_at i 0 hi (by decide)
  refine (pay4_apply _ r l).trans (congrArg amax (funext fun k => ?_))
  exact blk0 m c _ r k R (by rw [hp]; omega)

/-- A row block's scales are its rows' scales. -/
theorem sx_apply (c : Dev nD) (i : ℕ) (hi : i < 36) (r : Fin 512) (l : Fin 1) (R : Fin 18432) (hR : R.val = 512 * i + r.val) :
    sx m c i (ix2 r l) = xScale (KX m c) R := by
  unfold sx xScale
  rw [QS_apply, xmax_apply m c i hi r l R hR]

/-- A row block's codes are its rows' codes. -/
theorem cx_apply (c : Dev nD) (i : ℕ) (hi : i < 36) (r : Fin 512) (k : Fin 4096) (R : Fin 18432) (hR : R.val = 512 * i + r.val) :
    cx m c i (ix2 r k) = xCode (KX m c) R k := by
  have hp : (pt (43 * i)).val = 43 * i := pt_at i 0 hi (by decide)
  unfold cx xCode
  rw [QC_apply, xmax_apply m c i hi r 0 R hR]
  exact congrArg (fun v => code v (amax (KX m c R))) (blk0 m c _ r k R (by rw [hp]; omega))

/-- A hidden element depends on its operands' elements only. -/
theorem hval_congr {c c' : Fin 4096 → EReal} {s s' : EReal} {wg wg' wu wu' : Fin 4096 → EReal} {sg sg' su su' : EReal}
    (h1 : ∀ k, c k = c' k) (h2 : s = s') (h3 : ∀ k, wg k = wg' k) (h4 : ∀ k, wu k = wu' k) (h5 : sg = sg') (h6 : su = su') :
    hval c s wg wu sg su = hval c' s' wg' wu' sg' su' := by
  rw [funext h1, h2, funext h3, funext h4, h5, h6]

/-- The hidden columns of column step `j` are columns `256 j` to `256 j + 255` of the hidden rows. -/
theorem tile_apply (c : Dev nD) (i j : ℕ) (hi : i < 36) (hj : j < 43) (r : Fin 512) (q : Fin 256) (R : Fin 18432)
    (hR : R.val = 512 * i + r.val) (Q : Fin 11008) (hQ : Q.val = 256 * j + q.val) :
    tileT m c i (pt (43 * i + j)) (ix2 r q) = hrow (KX m c R) (KW m c) (KS m c) Q := by
  have hp : (pt (43 * i + j)).val % 43 = j := by rw [pt_at i j hi hj]; omega
  have hQ' : Q.val = 256 * ((pt (43 * i + j)).val % 43) + q.val := by rw [hp]; exact hQ
  unfold tileT hrow
  refine (TL_apply _ _ _ _ _ _ r q).trans ?_
  exact hval_congr (fun k => cx_apply m c i hi r k R hR) (sx_apply m c i hi r 0 R hR) (fun k => blk1 m c _ k q Q hQ')
    (fun k => blk2 m c _ k q Q hQ') (blk3 m c _ q Q hQ') (blk4 m c _ q Q hQ')

/-- A row block's hidden values are its hidden rows. -/
theorem hid_apply (c : Dev nD) (i : ℕ) (hi : i < 36) (r : Fin 512) (q : Fin 11008) (R : Fin 18432) (hR : R.val = 512 * i + r.val) :
    hid m c i (ix2 r q) = hrow (KX m c R) (KW m c) (KS m c) q := by
  have hq : q.val < 11008 := q.isLt
  exact tile_apply m c i (q.val / 256) hi (by omega) r ⟨q.val % 256, Nat.mod_lt _ (by decide)⟩ R hR q (Nat.div_add_mod _ _).symm

/-- The running maximum after `j` column steps is the least bound, not below 0, of the magnitudes of the hidden
    columns met so far. -/
theorem acc_le (c : Dev nD) (i : ℕ) (hi : i < 36) (r : Fin 512) (l : Fin 1) (R : Fin 18432) (hR : R.val = 512 * i + r.val) (b : EReal) :
    ∀ j : ℕ, j ≤ 43 → ((acc m c i j (ix2 r l) : EReal) ≤ b ↔ 0 ≤ b ∧ ∀ Q : Fin 11008, Q.val < 256 * j →
      max (hrow (KX m c R) (KW m c) (KS m c) Q) (-(hrow (KX m c R) (KW m c) (KS m c) Q)) ≤ b)
  | 0, _ => by
    have e : (acc m c i 0 (ix2 r l) : EReal) = 0 := by
      show (k0_pay20 (F := Ideal) (ix2 r l) : EReal) = 0
      pointwise [k0_pay20]
    rw [e]
    exact ⟨fun h => ⟨h, fun Q hQ => absurd hQ (by omega)⟩, fun h => h.1⟩
  | j + 1, hj => by
    have ih := acc_le c i hi r l R hR b j (by omega)
    show (accT m c i (pt (43 * i + j)) (acc m c i j) (ix2 r l) : EReal) ≤ b ↔ _
    unfold accT
    rw [AM_apply, max_le_iff, ih, amax_le]
    have ht : ∀ (q : Fin 256) (Q : Fin 11008), Q.val = 256 * j + q.val →
        TL (cx m c i) (sx m c i) (iblk m c 1 (pt (43 * i + j))) (iblk m c 2 (pt (43 * i + j))) (iblk m c 3 (pt (43 * i + j))) (iblk m c 4 (pt (43 * i + j))) (ix2 r q)
          = hrow (KX m c R) (KW m c) (KS m c) Q := fun q Q hQ => tile_apply m c i j hi (by omega) r q R hR Q hQ
    constructor
    · rintro ⟨⟨h0, h1⟩, h2⟩
      refine ⟨h0, fun Q hQ => ?_⟩
      by_cases hlt : Q.val < 256 * j
      · exact h1 Q hlt
      · have h := h2 ⟨Q.val - 256 * j, by omega⟩
        rw [ht ⟨Q.val - 256 * j, by omega⟩ Q (by show Q.val = 256 * j + (Q.val - 256 * j); omega)] at h
        exact h
    · rintro ⟨h0, h1⟩
      refine ⟨⟨h0, fun Q hQ => h1 Q (by omega)⟩, fun q => ?_⟩
      have hq : q.val < 256 := q.isLt
      rw [ht q ⟨256 * j + q.val, by omega⟩ rfl]
      exact h1 ⟨256 * j + q.val, by omega⟩ (by show 256 * j + q.val < 256 * (j + 1); omega)

/-- After the last column step the running maximum is the greatest magnitude of the hidden row. -/
theorem acc_apply (c : Dev nD) (i : ℕ) (hi : i < 36) (r : Fin 512) (l : Fin 1) (R : Fin 18432) (hR : R.val = 512 * i + r.val) :
    (acc m c i 43 (ix2 r l) : EReal) = amax (hrow (KX m c R) (KW m c) (KS m c)) := by
  refine eq_of_forall_ge_iff fun b => ?_
  rw [acc_le m c i hi r l R hR b 43 le_rfl, amax_le]
  exact ⟨fun h Q => h.2 Q (by have := Q.isLt; omega),
    fun h => ⟨le_trans (mag_nonneg _) (h ⟨0, by decide⟩), fun Q _ => h Q⟩⟩

end Cert.KernelIdeal.Hand

end
-- ==== Proof.KerArrays.lean ====
module

public import proofs.«01_k».proof.Proof.Rows
public import proofs.«01_k».proof.Proof.HandKernelIdeal.Dats
public import Idealize.ShloMosaic.Lib.Pipeline.Covers
public import Idealize.ShloMosaic.Lib.Pipeline.ValueKit
public import Idealize.ShloMosaic.Lib.Pointwise

@[expose] public section

set_option maxRecDepth 16384

noncomputable section

/-! # The kernel's result arrays -/

namespace Cert.KernelIdeal.Hand

open Cert.KernelIdeal Cert.KernelIdeal.Gen Cert.Quant Cert.Vals
open Idealize.ShloMosaic Idealize.ShloMosaic.TcCoe
open Idealize.ShloMosaic.Pipeline (Dat)

variable (m : (ℓ : Loc nD τ sig) → Buf (Elt Ideal) ℓ)

/-- Point `t`'s row block is one of 36. -/
theorem row_lt (t : Fin cfg0.N) : t.val / 43 < 36 := by
  have ht : t.val < 1548 := Nat.lt_of_lt_of_eq t.isLt N_0
  omega

/-- The block of each result window at point `t`. -/
theorem idx5 (t : Fin cfg0.N) : win0_5.index t = ![t.val / 43, 0] := by
  have ht := row_lt t
  show cc0_transform_5 (grid0.coords t) = _
  simp only [cc0_transform_5, co0]
  congr 1
  simp [BitVec.toNat_ofNat]
  omega
/-- The block of the hidden rows' codes at point `t`. -/
theorem idx6 (t : Fin cfg0.N) : win0_6.index t = ![t.val / 43, 0] := by
  have ht := row_lt t
  show cc0_transform_6 (grid0.coords t) = _
  simp only [cc0_transform_6, co0]
  congr 1
  simp [BitVec.toNat_ofNat]
  omega
/-- The block of the codes of `x` at point `t`. -/
theorem idx7 (t : Fin cfg0.N) : win0_7.index t = ![t.val / 43, 0] := by
  have ht := row_lt t
  show cc0_transform_7 (grid0.coords t) = _
  simp only [cc0_transform_7, co0]
  congr 1
  simp [BitVec.toNat_ofNat]
  omega
/-- The block of the scales of `x` at point `t`. -/
theorem idx8 (t : Fin cfg0.N) : win0_8.index t = ![t.val / 43, 0] := by
  have ht := row_lt t
  show cc0_transform_8 (grid0.coords t) = _
  simp only [cc0_transform_8, co0]
  congr 1
  simp [BitVec.toNat_ofNat]
  omega

/-- Row block `b` as grid coordinates. -/
def rowAt (b : Fin 36) : grid0.Coords := grid0.coords (pt (43 * b.val))

/-- Those coordinates' row block. -/
theorem rowAt_val (b : Fin 36) : (pt (43 * b.val)).val / 43 = b.val := by
  have h := pt_at b.val 0 b.isLt (by decide)
  have h' : (pt (43 * b.val)).val = 43 * b.val := h
  rw [h']; omega

/-- The blocks of each result window cover its array. -/
theorem cov5 : (cfg0.win 5).Covers :=
  (cfg0.win 5).covers_of_indexMap_surj rfl (by decide) fun β => by
    have hb : (β (0 : Fin 2)).val < 36 := lt_of_lt_of_eq (β (0 : Fin 2)).isLt (by decide : (cfg0.win 5).nblk (0 : Fin 2) = 36)
    have hc : (β (1 : Fin 2)).val < 1 := lt_of_lt_of_eq (β (1 : Fin 2)).isLt (by decide : (cfg0.win 5).nblk (1 : Fin 2) = 1)
    refine ⟨rowAt ⟨_, hb⟩, fun a => ?_⟩
    have e := congrFun (idx5 (pt (43 * (β (0 : Fin 2)).val))) a
    refine Eq.trans e ?_
    revert a; intro (a : Fin 2) _
    fin_cases a
    · exact rowAt_val ⟨_, hb⟩
    · show 0 = (β (1 : Fin 2)).val
      omega
/-- The blocks of the hidden rows' codes cover their array. -/
theorem cov6 : (cfg0.win 6).Covers :=
  (cfg0.win 6).covers_of_indexMap_surj rfl (by decide) fun β => by
    have hb : (β (0 : Fin 2)).val < 36 := lt_of_lt_of_eq (β (0 : Fin 2)).isLt (by decide : (cfg0.win 6).nblk (0 : Fin 2) = 36)
    have hc : (β (1 : Fin 2)).val < 1 := lt_of_lt_of_eq (β (1 : Fin 2)).isLt (by decide : (cfg0.win 6).nblk (1 : Fin 2) = 1)
    refine ⟨rowAt ⟨_, hb⟩, fun a => ?_⟩
    have e := congrFun (idx6 (pt (43 * (β (0 : Fin 2)).val))) a
    refine Eq.trans e ?_
    revert a; intro (a : Fin 2) _
    fin_cases a
    · exact rowAt_val ⟨_, hb⟩
    · show 0 = (β (1 : Fin 2)).val
      omega
/-- The blocks of the codes of `x` cover their array. -/
theorem cov7 : (cfg0.win 7).Covers :=
  (cfg0.win 7).covers_of_indexMap_surj rfl (by decide) fun β => by
    have hb : (β (0 : Fin 2)).val < 36 := lt_of_lt_of_eq (β (0 : Fin 2)).isLt (by decide : (cfg0.win 7).nblk (0 : Fin 2) = 36)
    have hc : (β (1 : Fin 2)).val < 1 := lt_of_lt_of_eq (β (1 : Fin 2)).isLt (by decide : (cfg0.win 7).nblk (1 : Fin 2) = 1)
    refine ⟨rowAt ⟨_, hb⟩, fun a => ?_⟩
    have e := congrFun (idx7 (pt (43 * (β (0 : Fin 2)).val))) a
    refine Eq.trans e ?_
    revert a; intro (a : Fin 2) _
    fin_cases a
    · exact rowAt_val ⟨_, hb⟩
    · show 0 = (β (1 : Fin 2)).val
      omega
/-- The blocks of the scales of `x` cover their array. -/
theorem cov8 : (cfg0.win 8).Covers :=
  (cfg0.win 8).covers_of_indexMap_surj rfl (by decide) fun β => by
    have hb : (β (0 : Fin 2)).val < 36 := lt_of_lt_of_eq (β (0 : Fin 2)).isLt (by decide : (cfg0.win 8).nblk (0 : Fin 2) = 36)
    have hc : (β (1 : Fin 2)).val < 1 := lt_of_lt_of_eq (β (1 : Fin 2)).isLt (by decide : (cfg0.win 8).nblk (1 : Fin 2) = 1)
    refine ⟨rowAt ⟨_, hb⟩, fun a => ?_⟩
    have e := congrFun (idx8 (pt (43 * (β (0 : Fin 2)).val))) a
    refine Eq.trans e ?_
    revert a; intro (a : Fin 2) _
    fin_cases a
    · exact rowAt_val ⟨_, hb⟩
    · show 0 = (β (1 : Fin 2)).val
      omega

/-- Row `r` of point `t`'s row block, as a row of the array. -/
def rowOf (t : Fin cfg0.N) (r : Fin 512) : Fin 18432 := ⟨512 * (t.val / 43) + r.val, by have := row_lt t; have := r.isLt; omega⟩

/-- Where each result window's block at point `t` lies in its array. -/
theorem emb5 (t : Fin cfg0.N) (y : S512x1.Idx) : ((win0_5.blk t).view.emb y : S18432x1.Idx) = ix2 (rowOf t (y 0)) (y 1) := by
  blk_ext [rowOf, idx5 t]
/-- Where the block of the hidden rows' codes at point `t` lies in its array. -/
theorem emb6 (t : Fin cfg0.N) (y : S512x11008.Idx) : ((win0_6.blk t).view.emb y : S18432x11008.Idx) = ix2 (rowOf t (y 0)) (y 1) := by
  blk_ext [rowOf, idx6 t]
/-- Where the block of the codes of `x` at point `t` lies in its array. -/
theorem emb7 (t : Fin cfg0.N) (y : S512x4096.Idx) : ((win0_7.blk t).view.emb y : S18432x4096.Idx) = ix2 (rowOf t (y 0)) (y 1) := by
  blk_ext [rowOf, idx7 t]
/-- Where the block of the scales of `x` at point `t` lies in its array. -/
theorem emb8 (t : Fin cfg0.N) (y : S512x1.Idx) : ((win0_8.blk t).view.emb y : S18432x1.Idx) = ix2 (rowOf t (y 0)) (y 1) := by
  blk_ext [rowOf, idx8 t]

/-- What a row block leaves of the hidden rows' scales. -/
theorem res5 (c : Dev nD) (t : Fin cfg0.N) (y : S512x1.Idx) : HS (acc m c (t.val / 43) 43) y = hScale (KX m c) (KW m c) (KS m c) (rowOf t (y 0)) := by
  unfold hScale
  rw [HS_apply, ValueIdx.eq_ix2 y]
  exact congrArg scale (acc_apply m c _ (row_lt t) _ _ (rowOf t (y 0)) rfl)

/-- The result array of the hidden rows' scales. -/
theorem arr5 (c : Dev nD) : (dats m 0 c).arrAt 5 cfg0.N = fun y : S18432x1.Idx => hScale (KX m c) (KW m c) (KS m c) (y 0) := by
  refine (dats m 0 c).arrAt_eq_of_covers 5 _ cov5 fun t hf y => ?_
  blk_simp
  rw [after_5]
  refine (res5 m c t y).trans ?_
  exact (congrArg (fun y : S18432x1.Idx => hScale (KX m c) (KW m c) (KS m c) (y 0)) (emb5 t y)).symm

/-- What a row block leaves of the hidden rows' codes. -/
theorem res6 (c : Dev nD) (t : Fin cfg0.N) (y : S512x11008.Idx) : HC (acc m c (t.val / 43) 43) (hid m c (t.val / 43)) y = hCode (KX m c) (KW m c) (KS m c) (rowOf t (y 0)) (y 1) := by
  unfold hCode
  rw [ValueIdx.eq_ix2 y]
  refine (HC_apply _ _ (y 0) (y 1)).trans ?_
  exact congrArg₂ code (hid_apply m c _ (row_lt t) (y 0) (y 1) (rowOf t (y 0)) rfl) (acc_apply m c _ (row_lt t) (y 0) 0 (rowOf t (y 0)) rfl)

/-- The result array of the hidden rows' codes. -/
theorem arr6 (c : Dev nD) : (dats m 0 c).arrAt 6 cfg0.N = fun y : S18432x11008.Idx => hCode (KX m c) (KW m c) (KS m c) (y 0) (y 1) := by
  refine (dats m 0 c).arrAt_eq_of_covers 6 _ cov6 fun t hf y => ?_
  blk_simp
  rw [after_6]
  refine (res6 m c t y).trans ?_
  exact (congrArg (fun y : S18432x11008.Idx => hCode (KX m c) (KW m c) (KS m c) (y 0) (y 1)) (emb6 t y)).symm

/-- What a row block leaves of the codes of `x`. -/
theorem res7 (c : Dev nD) (t : Fin cfg0.N) (y : S512x4096.Idx) : cx m c (t.val / 43) y = xCode (KX m c) (rowOf t (y 0)) (y 1) := by
  rw [ValueIdx.eq_ix2 y]
  exact cx_apply m c _ (row_lt t) (y 0) (y 1) (rowOf t (y 0)) rfl

/-- The result array of the codes of `x`. -/
theorem arr7 (c : Dev nD) : (dats m 0 c).arrAt 7 cfg0.N = fun y : S18432x4096.Idx => xCode (KX m c) (y 0) (y 1) := by
  refine (dats m 0 c).arrAt_eq_of_covers 7 _ cov7 fun t hf y => ?_
  blk_simp
  rw [after_7]
  refine (res7 m c t y).trans ?_
  exact (congrArg (fun y : S18432x4096.Idx => xCode (KX m c) (y 0) (y 1)) (emb7 t y)).symm

/-- What a row block leaves of the scales of `x`. -/
theorem res8 (c : Dev nD) (t : Fin cfg0.N) (y : S512x1.Idx) : sx m c (t.val / 43) y = xScale (KX m c) (rowOf t (y 0)) := by
  rw [ValueIdx.eq_ix2 y]
  exact sx_apply m c _ (row_lt t) (y 0) (y 1) (rowOf t (y 0)) rfl

/-- The result array of the scales of `x`. -/
theorem arr8 (c : Dev nD) : (dats m 0 c).arrAt 8 cfg0.N = fun y : S18432x1.Idx => xScale (KX m c) (y 0) := by
  refine (dats m 0 c).arrAt_eq_of_covers 8 _ cov8 fun t hf y => ?_
  blk_simp
  rw [after_8]
  refine (res8 m c t y).trans ?_
  exact (congrArg (fun y : S18432x1.Idx => xScale (KX m c) (y 0)) (emb8 t y)).symm

end Cert.KernelIdeal.Hand

end
-- ==== Proof.PayR.lean ====
module

public import proofs.«01_k».proof.Proof.Gen.ReferenceIdeal.Frame
public import proofs.«01_k».proof.Proof.Vals
public import Idealize.ShloMosaic.Lib.Pointwise

@[expose] public section

set_option maxRecDepth 16384

noncomputable section

/-! # The reference's stored values, element by element, over the extended reals -/

namespace Cert.ReferenceIdeal.Pay

open Cert.ReferenceIdeal Cert.ReferenceIdeal.Gen Cert.Quant Cert.Vals
open Idealize.ShloMosaic

/-- The row maxima of `x`. -/
def rmx (x : Vec Ideal S18432x4096 .bf16) : FVec Ideal S18432x1 .f32 :=
  shapeCast S18432x1 (multiReduction .maximumf [1] S18432 (absf (k0_pay2 x)) 0xFF800000#32 reduces_S18432x4096_S18432 (.inl rfl) rfl) shapeCasts_S18432_S18432x1

/-- The row maxima of the hidden array. -/
def rmh (p q : FVec Ideal S18432x22016 .f32) (s : Vec Ideal S1x22016 .f32) : FVec Ideal S18432x1 .f32 :=
  shapeCast S18432x1 (multiReduction .maximumf [1] S18432 (absf (k0_pay8 p q s)) 0xFF800000#32 reduces_S18432x11008_S18432 (.inl rfl) rfl) shapeCasts_S18432_S18432x1

/-- The greatest magnitude of a row of `x`. -/
theorem rmx_apply (x : Vec Ideal S18432x4096 .bf16) (r : Fin 18432) (l : Fin 1) :
    rmx x (ix2 r l) = amax fun k : Fin 4096 => x (ix2 r k) := by
  pointwise [rmx, k0_pay2]
  rfl

/-- The greatest magnitude of a hidden row. -/
theorem rmh_apply (p q : FVec Ideal S18432x22016 .f32) (s : Vec Ideal S1x22016 .f32) (r : Fin 18432) (l : Fin 1) :
    rmh p q s (ix2 r l) = amax fun k : Fin 11008 => k0_pay8 p q s (ix2 r k) := by
  unfold rmh
  generalize k0_pay8 p q s = h
  pointwise
  rfl

/-- The reference's exponent, on a vector of row maxima. -/
def vrexp {s : Shape} (a : FVec Ideal s .f32) : FVec Ideal s .f32 :=
  select (cmpf .oeq a (broadcast s (Scalar.ofBits .f32 0x00000000#32))) (broadcast s (Scalar.ofBits .f32 0x00000000#32))
    (select (andi (cmpf .oge (mulf a (broadcast s (Scalar.ofBits .f32 0x3B124925#32))) (broadcast s (Scalar.ofBits .f32 0x00800000#32)))
        (cmpf .olt (mulf a (broadcast s (Scalar.ofBits .f32 0x3B124925#32))) (broadcast s (Scalar.ofBits .f32 0x7F800000#32))))
      (minimumf (addf (floor (divf (log (mulf a (broadcast s (Scalar.ofBits .f32 0x3B124925#32)))) (log (broadcast s (Scalar.ofBits .f32 0x40000000#32)))))
        (broadcast s (Scalar.ofBits .f32 0x3F800000#32))) (broadcast s (Scalar.ofBits .f32 0x43000000#32)))
      (broadcast s (Scalar.ofBits .f32 0x00000000#32)))

/-- The reference's exponent of a vector, at an element. -/
theorem vrexp_apply {s : Shape} (a : FVec Ideal s .f32) (i : s.Idx) : vrexp a i = rexp (a i) := rfl

/-- The exponents of `x` are taken of its row maxima. -/
theorem pay3_eq (x : Vec Ideal S18432x4096 .bf16) : k0_pay3 x = vrexp (rmx x) := by
  simp only [k0_pay3, vrexp, rmx]

/-- The exponents of the hidden rows are taken of their row maxima. -/
theorem pay9_eq (p q : FVec Ideal S18432x22016 .f32) (s : Vec Ideal S1x22016 .f32) : k0_pay9 p q s = vrexp (rmh p q s) := by
  simp only [k0_pay9, vrexp, rmh]

/-- The reference's exponent of a row of `x`. -/
theorem pay3_apply (x : Vec Ideal S18432x4096 .bf16) (r : Fin 18432) (l : Fin 1) :
    k0_pay3 x (ix2 r l) = rexp (amax fun k : Fin 4096 => x (ix2 r k)) := by
  have e := vrexp_apply (rmx x) (ix2 r l)
  rw [← pay3_eq, rmx_apply] at e
  exact e

/-- The reference's exponent of a hidden row. -/
theorem pay9_apply (p q : FVec Ideal S18432x22016 .f32) (s : Vec Ideal S1x22016 .f32) (r : Fin 18432) (l : Fin 1) :
    k0_pay9 p q s (ix2 r l) = rexp (amax fun k : Fin 11008 => k0_pay8 p q s (ix2 r k)) := by
  have e := vrexp_apply (rmh p q s) (ix2 r l)
  rw [← pay9_eq, rmh_apply] at e
  exact e

/-- The power of two of a vector, at an element. -/
theorem exp2_at {s : Shape} (n : FVec Ideal s .f32) (i : s.Idx) : exp2 n i = Ideal.exp2 (n i) := rfl

/-- The power of two of a negated vector, at an element. -/
theorem inv_at {s : Shape} (n : FVec Ideal s .f32) (i : s.Idx) :
    exp2 (subf (broadcast s (Scalar.ofBits .f32 0x00000000#32)) n) i = Ideal.exp2 (Ideal.ofBits .f32 0x00000000#32 - n i) := rfl

/-- The reference's scales of `x`. -/
theorem pay4_apply (x : Vec Ideal S18432x4096 .bf16) (r : Fin 18432) (l : Fin 1) :
    k0_pay4 x (ix2 r l) = scale (amax fun k : Fin 4096 => x (ix2 r k)) := by
  have e := exp2_at (k0_pay3 x) (ix2 r l)
  rw [pay3_apply x r l, ← scale_agree] at e
  exact e

/-- The reference's scales of the hidden rows. -/
theorem pay10_apply (p q : FVec Ideal S18432x22016 .f32) (s : Vec Ideal S1x22016 .f32) (r : Fin 18432) (l : Fin 1) :
    k0_pay10 p q s (ix2 r l) = scale (amax fun k : Fin 11008 => k0_pay8 p q s (ix2 r k)) := by
  have e := exp2_at (k0_pay9 p q s) (ix2 r l)
  rw [pay9_apply p q s r l, ← scale_agree] at e
  exact e

/-- The reference's codes of `x`. -/
theorem pay5_apply (x : Vec Ideal S18432x4096 .bf16) (r : Fin 18432) (k : Fin 4096) :
    k0_pay5 x (ix2 r k) = code (x (ix2 r k)) (amax fun k : Fin 4096 => x (ix2 r k)) := by
  have e := inv_at (k0_pay3 x) (ix2 r 0)
  rw [pay3_apply x r 0, ← inv_agree] at e
  unfold k0_pay5 code
  rw [← e]
  generalize exp2 (subf (broadcast S18432x1 (Scalar.ofBits (F := Ideal) .f32 0x00000000#32)) (k0_pay3 x)) = n
  pointwise [k0_pay2]

/-- The reference's codes of the hidden rows. -/
theorem pay11_apply (p q : FVec Ideal S18432x22016 .f32) (s : Vec Ideal S1x22016 .f32) (r : Fin 18432) (k : Fin 11008) :
    k0_pay11 p q s (ix2 r k) = code (k0_pay8 p q s (ix2 r k)) (amax fun k : Fin 11008 => k0_pay8 p q s (ix2 r k)) := by
  have e := inv_at (k0_pay9 p q s) (ix2 r 0)
  rw [pay9_apply p q s r 0, ← inv_agree] at e
  unfold k0_pay11 code
  rw [← e]
  generalize exp2 (subf (broadcast S18432x1 (Scalar.ofBits (F := Ideal) .f32 0x00000000#32)) (k0_pay9 p q s)) = n
  generalize k0_pay8 p q s = h
  pointwise

/-- The reference's hidden array, at an element. -/
theorem pay8_apply (x : Vec Ideal S18432x4096 .bf16) (w : Vec Ideal S4096x22016 .fp8e4m3) (s : Vec Ideal S1x22016 .f32) (r : Fin 18432) (q : Fin 11008) :
    k0_pay8 (k0_pay6 x w) (k0_pay7 x) s (ix2 r q)
      = hrow (fun k => x (ix2 r k)) (fun k c => w (ix2 k c)) (fun c => s (ix2 0 c)) q := by
  unfold hrow hval
  rw [← pay4_apply x r 0]
  simp only [← pay5_apply x r]
  unfold k0_pay6 k0_pay7
  generalize k0_pay5 x = c
  generalize k0_pay4 x = n
  pointwise [k0_pay8]
  rfl

end Cert.ReferenceIdeal.Pay

end
-- ==== Proof.RefArrays.lean ====
module

public import proofs.«01_k».proof.Proof.PayR
public import proofs.«01_k».proof.Proof.Results
public import Idealize.ShloMosaic.Lib.Pipeline.ValueKit
public import Idealize.ShloMosaic.Lib.Pointwise

@[expose] public section

set_option maxRecDepth 16384

noncomputable section

/-! # The reference's result arrays -/

namespace Cert.ReferenceIdeal.Arrays

open Cert.ReferenceIdeal Cert.ReferenceIdeal.Gen Cert.ReferenceIdeal.Pay Cert.Quant Cert.Vals
open Idealize.ShloMosaic Idealize.ShloMosaic.TcCoe
open Idealize.ShloMosaic.Pipeline (Dat)

variable (m : (ℓ : Loc nD τ sig) → Buf (Elt Ideal) ℓ)

/-- The reference's `x`, row by row. -/
def RX (c : Dev nD) (R : Fin 18432) (k : Fin 4096) : EReal := (V m c main_v0 : Vec Ideal S18432x4096 .bf16) (ix2 R k)
/-- The reference's weights. -/
def RW (c : Dev nD) (k : Fin 4096) (q : Fin 22016) : EReal := (V m c main_arg1 : Vec Ideal S4096x22016 .fp8e4m3) (ix2 k q)
/-- The reference's scales. -/
def RS (c : Dev nD) (q : Fin 22016) : EReal := (V m c main_v1 : Vec Ideal S1x22016 .f32) (ix2 0 q)

/-- Every input window's block index at the one point. -/
theorem idx : ∀ t : Fin cfg0.N, win0_0.index t = ![0, 0] ∧ win0_1.index t = ![0, 0] ∧ win0_2.index t = ![0, 0] :=
  (by decide +kernel : ∀ t : Fin grid0.N, _)

/-- The reference's block of `x` is the array. -/
theorem blk0 (c : Dev nD) (R : Fin 18432) (k : Fin 4096) : (iblk m c 0 t0_0 : Vec Ideal S18432x4096 .bf16) (ix2 R k) = RX m c R k := by
  blk_ext [iblk, RX, idx t0_0]
/-- The reference's block of the weights is the array. -/
theorem blk1 (c : Dev nD) (k : Fin 4096) (q : Fin 22016) : (iblk m c 1 t0_0 : Vec Ideal S4096x22016 .fp8e4m3) (ix2 k q) = RW m c k q := by
  blk_ext [iblk, RW, idx t0_0]
/-- The reference's block of the scales is the array. -/
theorem blk2 (c : Dev nD) (q : Fin 22016) : (iblk m c 2 t0_0 : Vec Ideal S1x22016 .f32) (ix2 0 q) = RS m c q := by
  blk_ext [iblk, RS, idx t0_0]

/-- The offsets of a whole access are zero. -/
theorem hz : (![0, 0] : Fin 2 → Nat) = fun _ => 0 := funext fun a => by fin_cases a <;> rfl

variable (x0 : Vec Ideal S18432x4096 .bf16) (x1 : Vec Ideal S4096x22016 .fp8e4m3) (x2 : Vec Ideal S1x22016 .f32)

/-- The stored scales of `x`. -/
theorem out6_apply (R : Fin 18432) (l : Fin 1) : out0_6 x0 x1 x2 (ix2 R l) = xScale (fun R k => x0 (ix2 R k)) R := by
  unfold_out out0_6
  rw [show View.ld x0 _ = x0 from View.ld_unit_zero hz _ _]
  erw [View.canon_unit_zero hz]
  exact pay4_apply x0 R l

/-- The stored codes of `x`. -/
theorem out5_apply (R : Fin 18432) (k : Fin 4096) : out0_5 x0 x1 x2 (ix2 R k) = xCode (fun R k => x0 (ix2 R k)) R k := by
  unfold_out out0_5
  rw [show View.ld x0 _ = x0 from View.ld_unit_zero hz _ _]
  erw [View.canon_unit_zero hz]
  exact pay5_apply x0 R k

/-- The stored scales of the hidden rows. -/
theorem out3_apply (R : Fin 18432) (l : Fin 1) : out0_3 x0 x1 x2 (ix2 R l)
    = hScale (fun R k => x0 (ix2 R k)) (fun k c => x1 (ix2 k c)) (fun c => x2 (ix2 0 c)) R := by
  unfold_out out0_3
  rw [show View.ld x0 _ = x0 from View.ld_unit_zero hz _ _, show View.ld x1 _ = x1 from View.ld_unit_zero hz _ _,
    show View.ld x2 _ = x2 from View.ld_unit_zero hz _ _]
  erw [View.canon_unit_zero hz]
  refine (pay10_apply _ _ x2 R l).trans (congrArg scale (congrArg amax (funext fun q => ?_)))
  exact pay8_apply x0 x1 x2 R q

/-- Over the extended reals the change of format changes nothing. -/
theorem pay1_apply (h : FVec Ideal S18432x11008 .f32) (j : S18432x11008.Idx) : k0_pay1 h j = h j := rfl

/-- The stored codes of the hidden rows. -/
theorem out4_apply (R : Fin 18432) (q : Fin 11008) : out0_4 x0 x1 x2 (ix2 R q)
    = hCode (fun R k => x0 (ix2 R k)) (fun k c => x1 (ix2 k c)) (fun c => x2 (ix2 0 c)) R q := by
  unfold_out out0_4
  rw [show View.ld x0 _ = x0 from View.ld_unit_zero hz _ _, show View.ld x1 _ = x1 from View.ld_unit_zero hz _ _,
    show View.ld x2 _ = x2 from View.ld_unit_zero hz _ _]
  erw [View.canon_unit_zero hz]
  refine (pay1_apply _ _).trans ((pay11_apply _ _ x2 R q).trans ?_)
  unfold hCode
  rw [← pay8_apply x0 x1 x2 R q, ← funext fun q => pay8_apply x0 x1 x2 R q]

/-- What the reference leaves of the hidden rows' scales. -/
theorem res3 (c : Dev nD) (j : S18432x1.Idx) : out0_3 (iblk m c 0 t0_0) (iblk m c 1 t0_0) (iblk m c 2 t0_0) j = hScale (RX m c) (RW m c) (RS m c) (j 0) := by
  have e := out3_apply (iblk m c 0 t0_0) (iblk m c 1 t0_0) (iblk m c 2 t0_0) (j 0) (j 1)
  simp only [blk0, blk1, blk2] at e
  exact (congrArg _ (ValueIdx.eq_ix2 j)).trans e

/-- What the reference leaves of the hidden rows' codes. -/
theorem res4 (c : Dev nD) (j : S18432x11008.Idx) : out0_4 (iblk m c 0 t0_0) (iblk m c 1 t0_0) (iblk m c 2 t0_0) j = hCode (RX m c) (RW m c) (RS m c) (j 0) (j 1) := by
  have e := out4_apply (iblk m c 0 t0_0) (iblk m c 1 t0_0) (iblk m c 2 t0_0) (j 0) (j 1)
  simp only [blk0, blk1, blk2] at e
  exact (congrArg _ (ValueIdx.eq_ix2 j)).trans e

/-- What the reference leaves of the codes of `x`. -/
theorem res5 (c : Dev nD) (j : S18432x4096.Idx) : out0_5 (iblk m c 0 t0_0) (iblk m c 1 t0_0) (iblk m c 2 t0_0) j = xCode (RX m c) (j 0) (j 1) := by
  have e := out5_apply (iblk m c 0 t0_0) (iblk m c 1 t0_0) (iblk m c 2 t0_0) (j 0) (j 1)
  simp only [blk0] at e
  exact (congrArg _ (ValueIdx.eq_ix2 j)).trans e

/-- What the reference leaves of the scales of `x`. -/
theorem res6 (c : Dev nD) (j : S18432x1.Idx) : out0_6 (iblk m c 0 t0_0) (iblk m c 1 t0_0) (iblk m c 2 t0_0) j = xScale (RX m c) (j 0) := by
  have e := out6_apply (iblk m c 0 t0_0) (iblk m c 1 t0_0) (iblk m c 2 t0_0) (j 0) (j 1)
  simp only [blk0] at e
  exact (congrArg _ (ValueIdx.eq_ix2 j)).trans e

/-- The result array of the hidden rows' scales. -/
theorem arr3 (c : Dev nD) : (dats m 0 c).arrAt 3 cfg0.N = fun y : S18432x1.Idx => hScale (RX m c) (RW m c) (RS m c) (y 0) := by
  refine (dats m 0 c).arrAt_eq_of_after_last 3 t0_0 (by decide +kernel) _ fun j => ?_
  blk_simp
  rw [after0_3]
  exact res3 m c j

/-- The result array of the hidden rows' codes. -/
theorem arr4 (c : Dev nD) : (dats m 0 c).arrAt 4 cfg0.N = fun y : S18432x11008.Idx => hCode (RX m c) (RW m c) (RS m c) (y 0) (y 1) := by
  refine (dats m 0 c).arrAt_eq_of_after_last 4 t0_0 (by decide +kernel) _ fun j => ?_
  blk_simp
  rw [after0_4]
  exact res4 m c j

/-- The result array of the codes of `x`. -/
theorem arr5 (c : Dev nD) : (dats m 0 c).arrAt 5 cfg0.N = fun y : S18432x4096.Idx => xCode (RX m c) (y 0) (y 1) := by
  refine (dats m 0 c).arrAt_eq_of_after_last 5 t0_0 (by decide +kernel) _ fun j => ?_
  blk_simp
  rw [after0_5]
  exact res5 m c j

/-- The result array of the scales of `x`. -/
theorem arr6 (c : Dev nD) : (dats m 0 c).arrAt 6 cfg0.N = fun y : S18432x1.Idx => xScale (RX m c) (y 0) := by
  refine (dats m 0 c).arrAt_eq_of_after_last 6 t0_0 (by decide +kernel) _ fun j => ?_
  blk_simp
  rw [after0_6]
  exact res6 m c j

end Cert.ReferenceIdeal.Arrays

end
-- ==== Proof.Algebraic.lean ====
module

public import proofs.«01_k».proof.Defs
public import proofs.«01_k».proof.Proof.KerArrays
public import proofs.«01_k».proof.Proof.RefArrays
public import proofs.«01_k».proof.Proof.HandKernelIdeal.Body
public import proofs.«01_k».proof.Proof.Gen.KernelIdeal
public import proofs.«01_k».proof.Proof.Gen.ReferenceIdeal
public import Idealize.ShloMosaic.Lib.Pipeline.ValueKit
public import Idealize.ShloMosaic.Lib.Claim

@[expose] public section

set_option maxRecDepth 16384

noncomputable section

/-! # The kernel's four results are the reference's -/

namespace Cert.Proof.Algebraic

open Idealize.ShloMosaic Idealize.ShloMosaic.TcCoe Idealize.SL.Sem
open Cert.KernelIdeal.Hand Cert.ReferenceIdeal.Arrays Cert.Vals

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- With equal first arguments the two programs read the same `x`. -/
theorem x_agree (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    RX m' c = KX m c := by
  funext R k
  unfold RX KX
  have e1 : Cert.ReferenceIdeal.Gen.V m' c Cert.ReferenceIdeal.main_v0
      = shapeCast Cert.ReferenceIdeal.S18432x4096 (m' ((c.tc : Thread Cert.ReferenceIdeal.nD Cert.ReferenceIdeal.τ).loc Cert.ReferenceIdeal.main_arg0)) Cert.ReferenceIdeal.Facts₀.shapeCasts_S6x3072x4096_S18432x4096 := rfl
  have e2 : Cert.KernelIdeal.Gen.V m c Cert.KernelIdeal.main_v0
      = shapeCast Cert.KernelIdeal.S18432x4096 (m ((c.tc : Thread Cert.KernelIdeal.nD Cert.KernelIdeal.τ).loc Cert.KernelIdeal.main_arg0)) Cert.KernelIdeal.Facts₀.shapeCasts_S6x3072x4096_S18432x4096 := rfl
  rw [e1, e2, h]

/-- With equal second arguments the two programs read the same weights. -/
theorem w_agree (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    RW m' c = KW m c := by
  funext k q
  unfold RW KW
  rw [Cert.ReferenceIdeal.Gen.V_main_arg1, Cert.KernelIdeal.Gen.V_main_arg1]
  exact congrFun h _

/-- With equal third arguments the two programs read the same scales. -/
theorem s_agree (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    RS m' c = KS m c := by
  funext q
  unfold RS KS
  have e1 : Cert.ReferenceIdeal.Gen.V m' c Cert.ReferenceIdeal.main_v1
      = shapeCast Cert.ReferenceIdeal.S1x22016 (m' ((c.tc : Thread Cert.ReferenceIdeal.nD Cert.ReferenceIdeal.τ).loc Cert.ReferenceIdeal.main_arg2)) Cert.ReferenceIdeal.Facts₀.shapeCasts_S22016_S1x22016 := rfl
  have e2 : Cert.KernelIdeal.Gen.V m c Cert.KernelIdeal.main_v1
      = shapeCast Cert.KernelIdeal.S1x22016 (m ((c.tc : Thread Cert.KernelIdeal.nD Cert.KernelIdeal.τ).loc Cert.KernelIdeal.main_arg2)) Cert.KernelIdeal.Facts₀.shapeCasts_S22016_S1x22016 := rfl
  rw [e1, e2, h]

/-- At the extended reals the two programs leave equal results and keep their arguments. -/
theorem algebraic : Cert.algebraic_KernelIdeal_ReferenceIdeal := by
  pair_intro
  · run_from Cert.KernelIdeal.Hand.run_main m g & Cert.KernelIdeal.Hand.unchanged m g
  · run_from Cert.ReferenceIdeal.Gen.run_main m' g' & Cert.ReferenceIdeal.Gen.unchanged m' g'
    · exact (arr3 m' c).trans ((by rw [x_agree m m' c (hagree c).1, w_agree m m' c (hagree c).2.1, s_agree m m' c (hagree c).2.2] :
        (fun y : Cert.ReferenceIdeal.S18432x1.Idx => hScale (RX m' c) (RW m' c) (RS m' c) (y 0)) = fun y => hScale (KX m c) (KW m c) (KS m c) (y 0)).trans
          (Cert.KernelIdeal.Hand.arr5 m c).symm)
    · exact (arr4 m' c).trans ((by rw [x_agree m m' c (hagree c).1, w_agree m m' c (hagree c).2.1, s_agree m m' c (hagree c).2.2] :
        (fun y : Cert.ReferenceIdeal.S18432x11008.Idx => hCode (RX m' c) (RW m' c) (RS m' c) (y 0) (y 1)) = fun y => hCode (KX m c) (KW m c) (KS m c) (y 0) (y 1)).trans
          (Cert.KernelIdeal.Hand.arr6 m c).symm)
    · exact (Cert.ReferenceIdeal.Arrays.arr5 m' c).trans ((by rw [x_agree m m' c (hagree c).1] :
        (fun y : Cert.ReferenceIdeal.S18432x4096.Idx => xCode (RX m' c) (y 0) (y 1)) = fun y => xCode (KX m c) (y 0) (y 1)).trans
          (arr7 m c).symm)
    · exact (Cert.ReferenceIdeal.Arrays.arr6 m' c).trans ((by rw [x_agree m m' c (hagree c).1] :
        (fun y : Cert.ReferenceIdeal.S18432x1.Idx => xScale (RX m' c) (y 0)) = fun y => xScale (KX m c) (y 0)).trans
          (arr8 m c).symm)

end Cert.Proof.Algebraic

end
-- ==== Proof.lean ====
module

public import proofs.«01_k».proof.Defs
public import proofs.«01_k».proof.Proof.HandKernel.Body
public import proofs.«01_k».proof.Proof.HandKernelIdeal.Body
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The certificate's claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, Cert.Proof.Algebraic.algebraic⟩

end Cert.Proof

end
